-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S1 : Shape := ⟨1, ![1]⟩
abbrev S4096x4096 : Shape := ⟨2, ![4096, 4096]⟩
abbrev S16x3 : Shape := ⟨2, ![16, 3]⟩
abbrev S16 : Shape := ⟨1, ![16]⟩
abbrev S_ : Shape := ⟨0, ![]⟩
abbrev S1x1 : Shape := ⟨2, ![1, 1]⟩
abbrev S256x4096 : Shape := ⟨2, ![256, 4096]⟩
abbrev S512x256 : Shape := ⟨2, ![512, 256]⟩
abbrev S256x256 : Shape := ⟨2, ![256, 256]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .fp8e5m2⟩
  | .hbm, ⟨1, _⟩ => ⟨S4096x256, .fp8e5m2⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .fp8e5m2⟩
  | .local _ .vmem, ⟨1, _⟩ => ⟨S4096x256, .fp8e5m2⟩
  | .local _ .vmem, ⟨2, _⟩ => ⟨S4096x256, .f32⟩
  | .local _ .vmem, ⟨3, _⟩ => ⟨S4096x4096, .fp8e5m2⟩
  | .local _ .vmem, ⟨4, _⟩ => ⟨S4096x256, .fp8e5m2⟩
  | .local _ .smem, ⟨0, _⟩ => ⟨S1, .f32⟩
  | .local _ .smem, ⟨1, _⟩ => ⟨S1, .f32⟩
  | _, _ => ⟨S512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_1800 : BitVec 32 := 0#32
  let c1_i32_1798 : BitVec 32 := 1#32
  let c1_i32_1799 : BitVec 32 := 1#32
  let v1244 : BitVec 32 := Scalar.muli c1_i32_1798 c1_i32_1799
  let v1245 : BitVec 32 := Scalar.addi c0_i32_1800 v1244
  v1245.toNat
def k0_dev2 : Nat :=
  let c0_i32_1804 : BitVec 32 := 0#32
  let c3_i32_1802 : BitVec 32 := 3#32
  let c1_i32_1803 : BitVec 32 := 1#32
  let v1246 : BitVec 32 := Scalar.muli c3_i32_1802 c1_i32_1803
  let v1247 : BitVec 32 := Scalar.addi c0_i32_1804 v1246
  v1247.toNat
def k0_dev3 : Nat :=
  let c0_i32_1808 : BitVec 32 := 0#32
  let c4_i32_1806 : BitVec 32 := 4#32
  let c1_i32_1807 : BitVec 32 := 1#32
  let v1248 : BitVec 32 := Scalar.muli c4_i32_1806 c1_i32_1807
  let v1249 : BitVec 32 := Scalar.addi c0_i32_1808 v1248
  v1249.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v7 : BitVec 1 := Scalar.cmpi .eq v2 c4_i32
  let v8 : BitVec 32 := Scalar.extui v7
  let c0_i32_1 : BitVec 32 := 0#32
  let v9 : BitVec 1 := Scalar.cmpi .ne v8 c0_i32_1
  v9

def k0_dev4 : Nat :=
  let c0_i32_1800 : BitVec 32 := 0#32
  let c0_i32_1798 : BitVec 32 := 0#32
  let c1_i32_1799 : BitVec 32 := 1#32
  let v1244 : BitVec 32 := Scalar.muli c0_i32_1798 c1_i32_1799
  let v1245 : BitVec 32 := Scalar.addi c0_i32_1800 v1244
  v1245.toNat
def k0_dev5 : Nat :=
  let c0_i32_1804 : BitVec 32 := 0#32
  let c5_i32_1802 : BitVec 32 := 5#32
  let c1_i32_1803 : BitVec 32 := 1#32
  let v1246 : BitVec 32 := Scalar.muli c5_i32_1802 c1_i32_1803
  let v1247 : BitVec 32 := Scalar.addi c0_i32_1804 v1246
  v1247.toNat
def k0_dev6 : Nat :=
  let c0_i32_1808 : BitVec 32 := 0#32
  let c7_i32_1806 : BitVec 32 := 7#32
  let c1_i32_1807 : BitVec 32 := 1#32
  let v1248 : BitVec 32 := Scalar.muli c7_i32_1806 c1_i32_1807
  let v1249 : BitVec 32 := Scalar.addi c0_i32_1808 v1248
  v1249.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v10 : BitVec 1 := Scalar.cmpi .eq v2 c7_i32
  let v11 : BitVec 32 := Scalar.extui v10
  let c0_i32_2 : BitVec 32 := 0#32
  let v12 : BitVec 1 := Scalar.cmpi .ne v11 c0_i32_2
  v12

def k0_dev7 : Nat :=
  let c0_i32_1800 : BitVec 32 := 0#32
  let c3_i32_1798 : BitVec 32 := 3#32
  let c1_i32_1799 : BitVec 32 := 1#32
  let v1244 : BitVec 32 := Scalar.muli c3_i32_1798 c1_i32_1799
  let v1245 : BitVec 32 := Scalar.addi c0_i32_1800 v1244
  v1245.toNat
def k0_dev8 : Nat :=
  let c0_i32_1804 : BitVec 32 := 0#32
  let c4_i32_1802 : BitVec 32 := 4#32
  let c1_i32_1803 : BitVec 32 := 1#32
  let v1246 : BitVec 32 := Scalar.muli c4_i32_1802 c1_i32_1803
  let v1247 : BitVec 32 := Scalar.addi c0_i32_1804 v1246
  v1247.toNat
def k0_dev9 : Nat :=
  let c0_i32_1808 : BitVec 32 := 0#32
  let c6_i32_1806 : BitVec 32 := 6#32
  let c1_i32_1807 : BitVec 32 := 1#32
  let v1248 : BitVec 32 := Scalar.muli c6_i32_1806 c1_i32_1807
  let v1249 : BitVec 32 := Scalar.addi c0_i32_1808 v1248
  v1249.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .eq v2 c3_i32
  let v14 : BitVec 32 := Scalar.extui v13
  let c0_i32_3 : BitVec 32 := 0#32
  let v15 : BitVec 1 := Scalar.cmpi .ne v14 c0_i32_3
  v15

def k0_dev10 : Nat :=
  let c0_i32_1800 : BitVec 32 := 0#32
  let c0_i32_1798 : BitVec 32 := 0#32
  let c1_i32_1799 : BitVec 32 := 1#32
  let v1244 : BitVec 32 := Scalar.muli c0_i32_1798 c1_i32_1799
  let v1245 : BitVec 32 := Scalar.addi c0_i32_1800 v1244
  v1245.toNat
def k0_dev11 : Nat :=
  let c0_i32_1804 : BitVec 32 := 0#32
  let c2_i32_1802 : BitVec 32 := 2#32
  let c1_i32_1803 : BitVec 32 := 1#32
  let v1246 : BitVec 32 := Scalar.muli c2_i32_1802 c1_i32_1803
  let v1247 : BitVec 32 := Scalar.addi c0_i32_1804 v1246
  v1247.toNat
def k0_dev12 : Nat :=
  let c0_i32_1808 : BitVec 32 := 0#32
  let c7_i32_1806 : BitVec 32 := 7#32
  let c1_i32_1807 : BitVec 32 := 1#32
  let v1248 : BitVec 32 := Scalar.muli c7_i32_1806 c1_i32_1807
  let v1249 : BitVec 32 := Scalar.addi c0_i32_1808 v1248
  v1249.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v16 : BitVec 1 := Scalar.cmpi .eq v2 c2_i32
  let v17 : BitVec 32 := Scalar.extui v16
  let c0_i32_4 : BitVec 32 := 0#32
  let v18 : BitVec 1 := Scalar.cmpi .ne v17 c0_i32_4
  v18

def k0_dev13 : Nat :=
  let c0_i32_1800 : BitVec 32 := 0#32
  let c1_i32_1798 : BitVec 32 := 1#32
  let c1_i32_1799 : BitVec 32 := 1#32
  let v1244 : BitVec 32 := Scalar.muli c1_i32_1798 c1_i32_1799
  let v1245 : BitVec 32 := Scalar.addi c0_i32_1800 v1244
  v1245.toNat
def k0_dev14 : Nat :=
  let c0_i32_1804 : BitVec 32 := 0#32
  let c3_i32_1802 : BitVec 32 := 3#32
  let c1_i32_1803 : BitVec 32 := 1#32
  let v1246 : BitVec 32 := Scalar.muli c3_i32_1802 c1_i32_1803
  let v1247 : BitVec 32 := Scalar.addi c0_i32_1804 v1246
  v1247.toNat
def k0_dev15 : Nat :=
  let c0_i32_1808 : BitVec 32 := 0#32
  let c6_i32_1806 : BitVec 32 := 6#32
  let c1_i32_1807 : BitVec 32 := 1#32
  let v1248 : BitVec 32 := Scalar.muli c6_i32_1806 c1_i32_1807
  let v1249 : BitVec 32 := Scalar.addi c0_i32_1808 v1248
  v1249.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 1 := Scalar.cmpi .eq v2 c6_i32
  let v20 : BitVec 32 := Scalar.extui v19
  let c0_i32_5 : BitVec 32 := 0#32
  let v21 : BitVec 1 := Scalar.cmpi .ne v20 c0_i32_5
  v21

def k0_dev16 : Nat :=
  let c0_i32_1800 : BitVec 32 := 0#32
  let c2_i32_1798 : BitVec 32 := 2#32
  let c1_i32_1799 : BitVec 32 := 1#32
  let v1244 : BitVec 32 := Scalar.muli c2_i32_1798 c1_i32_1799
  let v1245 : BitVec 32 := Scalar.addi c0_i32_1800 v1244
  v1245.toNat
def k0_dev17 : Nat :=
  let c0_i32_1804 : BitVec 32 := 0#32
  let c5_i32_1802 : BitVec 32 := 5#32
  let c1_i32_1803 : BitVec 32 := 1#32
  let v1246 : BitVec 32 := Scalar.muli c5_i32_1802 c1_i32_1803
  let v1247 : BitVec 32 := Scalar.addi c0_i32_1804 v1246
  v1247.toNat
def k0_dev18 : Nat :=
  let c0_i32_1808 : BitVec 32 := 0#32
  let c7_i32_1806 : BitVec 32 := 7#32
  let c1_i32_1807 : BitVec 32 := 1#32
  let v1248 : BitVec 32 := Scalar.muli c7_i32_1806 c1_i32_1807
  let v1249 : BitVec 32 := Scalar.addi c0_i32_1808 v1248
  v1249.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v22 : BitVec 1 := Scalar.cmpi .eq v2 c5_i32
  let v23 : BitVec 32 := Scalar.extui v22
  let c0_i32_6 : BitVec 32 := 0#32
  let v24 : BitVec 1 := Scalar.cmpi .ne v23 c0_i32_6
  v24

def k0_dev19 : Nat :=
  let c0_i32_1800 : BitVec 32 := 0#32
  let c1_i32_1798 : BitVec 32 := 1#32
  let c1_i32_1799 : BitVec 32 := 1#32
  let v1244 : BitVec 32 := Scalar.muli c1_i32_1798 c1_i32_1799
  let v1245 : BitVec 32 := Scalar.addi c0_i32_1800 v1244
  v1245.toNat
def k0_dev20 : Nat :=
  let c0_i32_1804 : BitVec 32 := 0#32
  let c4_i32_1802 : BitVec 32 := 4#32
  let c1_i32_1803 : BitVec 32 := 1#32
  let v1246 : BitVec 32 := Scalar.muli c4_i32_1802 c1_i32_1803
  let v1247 : BitVec 32 := Scalar.addi c0_i32_1804 v1246
  v1247.toNat
def k0_dev21 : Nat :=
  let c0_i32_1808 : BitVec 32 := 0#32
  let c6_i32_1806 : BitVec 32 := 6#32
  let c1_i32_1807 : BitVec 32 := 1#32
  let v1248 : BitVec 32 := Scalar.muli c6_i32_1806 c1_i32_1807
  let v1249 : BitVec 32 := Scalar.addi c0_i32_1808 v1248
  v1249.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v25 : BitVec 1 := Scalar.cmpi .eq v2 c1_i32_7
  let v26 : BitVec 32 := Scalar.extui v25
  let c0_i32_8 : BitVec 32 := 0#32
  let v27 : BitVec 1 := Scalar.cmpi .ne v26 c0_i32_8
  v27

def k0_dev22 : Nat :=
  let c0_i32_1800 : BitVec 32 := 0#32
  let c0_i32_1798 : BitVec 32 := 0#32
  let c1_i32_1799 : BitVec 32 := 1#32
  let v1244 : BitVec 32 := Scalar.muli c0_i32_1798 c1_i32_1799
  let v1245 : BitVec 32 := Scalar.addi c0_i32_1800 v1244
  v1245.toNat
def k0_dev23 : Nat :=
  let c0_i32_1804 : BitVec 32 := 0#32
  let c2_i32_1802 : BitVec 32 := 2#32
  let c1_i32_1803 : BitVec 32 := 1#32
  let v1246 : BitVec 32 := Scalar.muli c2_i32_1802 c1_i32_1803
  let v1247 : BitVec 32 := Scalar.addi c0_i32_1804 v1246
  v1247.toNat
def k0_dev24 : Nat :=
  let c0_i32_1808 : BitVec 32 := 0#32
  let c5_i32_1806 : BitVec 32 := 5#32
  let c1_i32_1807 : BitVec 32 := 1#32
  let v1248 : BitVec 32 := Scalar.muli c5_i32_1806 c1_i32_1807
  let v1249 : BitVec 32 := Scalar.addi c0_i32_1808 v1248
  v1249.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v30 : BitVec 32 := Scalar.muli v2 c512_i32
  let v31 : Index := Scalar.indexCast v30
  let c0_11 : Index := 0#32
  ![v31.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v38 : BitVec 1 := Scalar.cmpi .eq v2 c0_i32_14
  let v39 : BitVec 32 := Scalar.extui v38
  let c0_i32_24 : BitVec 32 := 0#32
  let v40 : BitVec 1 := Scalar.cmpi .ne v39 c0_i32_24
  v40

def k0_dev25 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_dev26 : Nat :=
  let c0_i32_1806 : BitVec 32 := 0#32
  let c4_i32_1804 : BitVec 32 := 4#32
  let c1_i32_1805 : BitVec 32 := 1#32
  let v1252 : BitVec 32 := Scalar.muli c4_i32_1804 c1_i32_1805
  let v1253 : BitVec 32 := Scalar.addi c0_i32_1806 v1252
  v1253.toNat
def k0_dev27 : Nat :=
  let c0_i32_1813 : BitVec 32 := 0#32
  let c1_i32_1811 : BitVec 32 := 1#32
  let c1_i32_1812 : BitVec 32 := 1#32
  let v1260 : BitVec 32 := Scalar.muli c1_i32_1811 c1_i32_1812
  let v1261 : BitVec 32 := Scalar.addi c0_i32_1813 v1260
  v1261.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_25 : BitVec 32 := 2#32
  let v41 : BitVec 1 := Scalar.cmpi .eq v2 c2_i32_25
  let v42 : BitVec 32 := Scalar.extui v41
  let c0_i32_35 : BitVec 32 := 0#32
  let v43 : BitVec 1 := Scalar.cmpi .ne v42 c0_i32_35
  v43

def k0_dev28 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_dev29 : Nat :=
  let c0_i32_1805 : BitVec 32 := 0#32
  let c6_i32_1803 : BitVec 32 := 6#32
  let c1_i32_1804 : BitVec 32 := 1#32
  let v1252 : BitVec 32 := Scalar.muli c6_i32_1803 c1_i32_1804
  let v1253 : BitVec 32 := Scalar.addi c0_i32_1805 v1252
  v1253.toNat
def k0_dev30 : Nat :=
  let c0_i32_1812 : BitVec 32 := 0#32
  let c3_i32_1810 : BitVec 32 := 3#32
  let c1_i32_1811 : BitVec 32 := 1#32
  let v1260 : BitVec 32 := Scalar.muli c3_i32_1810 c1_i32_1811
  let v1261 : BitVec 32 := Scalar.addi c0_i32_1812 v1260
  v1261.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_36 : BitVec 32 := 4#32
  let v44 : BitVec 1 := Scalar.cmpi .eq v2 c4_i32_36
  let v45 : BitVec 32 := Scalar.extui v44
  let c0_i32_46 : BitVec 32 := 0#32
  let v46 : BitVec 1 := Scalar.cmpi .ne v45 c0_i32_46
  v46

def k0_dev31 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_dev32 : Nat :=
  let c0_i32_1805 : BitVec 32 := 0#32
  let c7_i32_1803 : BitVec 32 := 7#32
  let c1_i32_1804 : BitVec 32 := 1#32
  let v1252 : BitVec 32 := Scalar.muli c7_i32_1803 c1_i32_1804
  let v1253 : BitVec 32 := Scalar.addi c0_i32_1805 v1252
  v1253.toNat
def k0_dev33 : Nat :=
  let c0_i32_1812 : BitVec 32 := 0#32
  let c0_i32_1810 : BitVec 32 := 0#32
  let c1_i32_1811 : BitVec 32 := 1#32
  let v1260 : BitVec 32 := Scalar.muli c0_i32_1810 c1_i32_1811
  let v1261 : BitVec 32 := Scalar.addi c0_i32_1812 v1260
  v1261.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v47 : BitVec 1 := Scalar.cmpi .eq v2 c4_i32_47
  let v48 : BitVec 32 := Scalar.extui v47
  let c0_i32_57 : BitVec 32 := 0#32
  let v49 : BitVec 1 := Scalar.cmpi .ne v48 c0_i32_57
  v49

def k0_dev34 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_dev35 : Nat :=
  let c0_i32_1805 : BitVec 32 := 0#32
  let c5_i32_1803 : BitVec 32 := 5#32
  let c1_i32_1804 : BitVec 32 := 1#32
  let v1252 : BitVec 32 := Scalar.muli c5_i32_1803 c1_i32_1804
  let v1253 : BitVec 32 := Scalar.addi c0_i32_1805 v1252
  v1253.toNat
def k0_dev36 : Nat :=
  let c0_i32_1812 : BitVec 32 := 0#32
  let c7_i32_1810 : BitVec 32 := 7#32
  let c1_i32_1811 : BitVec 32 := 1#32
  let v1260 : BitVec 32 := Scalar.muli c7_i32_1810 c1_i32_1811
  let v1261 : BitVec 32 := Scalar.addi c0_i32_1812 v1260
  v1261.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_58 : BitVec 32 := 7#32
  let v50 : BitVec 1 := Scalar.cmpi .eq v2 c7_i32_58
  let v51 : BitVec 32 := Scalar.extui v50
  let c0_i32_65 : BitVec 32 := 0#32
  let v52 : BitVec 1 := Scalar.cmpi .ne v51 c0_i32_65
  v52

def k0_dev37 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_dev38 : Nat :=
  let c0_i32_1805 : BitVec 32 := 0#32
  let c4_i32_1803 : BitVec 32 := 4#32
  let c1_i32_1804 : BitVec 32 := 1#32
  let v1252 : BitVec 32 := Scalar.muli c4_i32_1803 c1_i32_1804
  let v1253 : BitVec 32 := Scalar.addi c0_i32_1805 v1252
  v1253.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_66 : BitVec 32 := 7#32
  let v53 : BitVec 1 := Scalar.cmpi .eq v2 c7_i32_66
  let v54 : BitVec 32 := Scalar.extui v53
  let c0_i32_76 : BitVec 32 := 0#32
  let v55 : BitVec 1 := Scalar.cmpi .ne v54 c0_i32_76
  v55

def k0_dev39 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_dev40 : Nat :=
  let c0_i32_1805 : BitVec 32 := 0#32
  let c4_i32_1803 : BitVec 32 := 4#32
  let c1_i32_1804 : BitVec 32 := 1#32
  let v1252 : BitVec 32 := Scalar.muli c4_i32_1803 c1_i32_1804
  let v1253 : BitVec 32 := Scalar.addi c0_i32_1805 v1252
  v1253.toNat
def k0_dev41 : Nat :=
  let c0_i32_1812 : BitVec 32 := 0#32
  let c6_i32_1810 : BitVec 32 := 6#32
  let c1_i32_1811 : BitVec 32 := 1#32
  let v1260 : BitVec 32 := Scalar.muli c6_i32_1810 c1_i32_1811
  let v1261 : BitVec 32 := Scalar.addi c0_i32_1812 v1260
  v1261.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_77 : BitVec 32 := 3#32
  let v56 : BitVec 1 := Scalar.cmpi .eq v2 c3_i32_77
  let v57 : BitVec 32 := Scalar.extui v56
  let c0_i32_87 : BitVec 32 := 0#32
  let v58 : BitVec 1 := Scalar.cmpi .ne v57 c0_i32_87
  v58

def k0_dev42 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_dev43 : Nat :=
  let c0_i32_1805 : BitVec 32 := 0#32
  let c7_i32_1803 : BitVec 32 := 7#32
  let c1_i32_1804 : BitVec 32 := 1#32
  let v1252 : BitVec 32 := Scalar.muli c7_i32_1803 c1_i32_1804
  let v1253 : BitVec 32 := Scalar.addi c0_i32_1805 v1252
  v1253.toNat
def k0_dev44 : Nat :=
  let c0_i32_1812 : BitVec 32 := 0#32
  let c2_i32_1810 : BitVec 32 := 2#32
  let c1_i32_1811 : BitVec 32 := 1#32
  let v1260 : BitVec 32 := Scalar.muli c2_i32_1810 c1_i32_1811
  let v1261 : BitVec 32 := Scalar.addi c0_i32_1812 v1260
  v1261.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_88 : BitVec 32 := 3#32
  let v59 : BitVec 1 := Scalar.cmpi .eq v2 c3_i32_88
  let v60 : BitVec 32 := Scalar.extui v59
  let c0_i32_98 : BitVec 32 := 0#32
  let v61 : BitVec 1 := Scalar.cmpi .ne v60 c0_i32_98
  v61

def k0_dev45 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_dev46 : Nat :=
  let c0_i32_1805 : BitVec 32 := 0#32
  let c7_i32_1803 : BitVec 32 := 7#32
  let c1_i32_1804 : BitVec 32 := 1#32
  let v1252 : BitVec 32 := Scalar.muli c7_i32_1803 c1_i32_1804
  let v1253 : BitVec 32 := Scalar.addi c0_i32_1805 v1252
  v1253.toNat
def k0_dev47 : Nat :=
  let c0_i32_1812 : BitVec 32 := 0#32
  let c0_i32_1810 : BitVec 32 := 0#32
  let c1_i32_1811 : BitVec 32 := 1#32
  let v1260 : BitVec 32 := Scalar.muli c0_i32_1810 c1_i32_1811
  let v1261 : BitVec 32 := Scalar.addi c0_i32_1812 v1260
  v1261.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_99 : BitVec 32 := 0#32
  let v62 : BitVec 1 := Scalar.cmpi .eq v2 c0_i32_99
  let v63 : BitVec 32 := Scalar.extui v62
  let c0_i32_109 : BitVec 32 := 0#32
  let v64 : BitVec 1 := Scalar.cmpi .ne v63 c0_i32_109
  v64

def k0_dev48 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_dev49 : Nat :=
  let c0_i32_1805 : BitVec 32 := 0#32
  let c1_i32_1803 : BitVec 32 := 1#32
  let c1_i32_1804 : BitVec 32 := 1#32
  let v1252 : BitVec 32 := Scalar.muli c1_i32_1803 c1_i32_1804
  let v1253 : BitVec 32 := Scalar.addi c0_i32_1805 v1252
  v1253.toNat
def k0_dev50 : Nat :=
  let c0_i32_1812 : BitVec 32 := 0#32
  let c4_i32_1810 : BitVec 32 := 4#32
  let c1_i32_1811 : BitVec 32 := 1#32
  let v1260 : BitVec 32 := Scalar.muli c4_i32_1810 c1_i32_1811
  let v1261 : BitVec 32 := Scalar.addi c0_i32_1812 v1260
  v1261.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v65 : BitVec 1 := Scalar.cmpi .eq v2 c1_i32_110
  let v66 : BitVec 32 := Scalar.extui v65
  let c0_i32_119 : BitVec 32 := 0#32
  let v67 : BitVec 1 := Scalar.cmpi .ne v66 c0_i32_119
  v67

def k0_dev51 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_dev52 : Nat :=
  let c0_i32_1805 : BitVec 32 := 0#32
  let c0_i32_1803 : BitVec 32 := 0#32
  let c1_i32_1804 : BitVec 32 := 1#32
  let v1252 : BitVec 32 := Scalar.muli c0_i32_1803 c1_i32_1804
  let v1253 : BitVec 32 := Scalar.addi c0_i32_1805 v1252
  v1253.toNat
def k0_dev53 : Nat :=
  let c0_i32_1812 : BitVec 32 := 0#32
  let c5_i32_1810 : BitVec 32 := 5#32
  let c1_i32_1811 : BitVec 32 := 1#32
  let v1260 : BitVec 32 := Scalar.muli c5_i32_1810 c1_i32_1811
  let v1261 : BitVec 32 := Scalar.addi c0_i32_1812 v1260
  v1261.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_120 : BitVec 32 := 6#32
  let v68 : BitVec 1 := Scalar.cmpi .eq v2 c6_i32_120
  let v69 : BitVec 32 := Scalar.extui v68
  let c0_i32_129 : BitVec 32 := 0#32
  let v70 : BitVec 1 := Scalar.cmpi .ne v69 c0_i32_129
  v70

def k0_dev54 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_dev55 : Nat :=
  let c0_i32_1805 : BitVec 32 := 0#32
  let c5_i32_1803 : BitVec 32 := 5#32
  let c1_i32_1804 : BitVec 32 := 1#32
  let v1252 : BitVec 32 := Scalar.muli c5_i32_1803 c1_i32_1804
  let v1253 : BitVec 32 := Scalar.addi c0_i32_1805 v1252
  v1253.toNat
def k0_dev56 : Nat :=
  let c0_i32_1812 : BitVec 32 := 0#32
  let c7_i32_1810 : BitVec 32 := 7#32
  let c1_i32_1811 : BitVec 32 := 1#32
  let v1260 : BitVec 32 := Scalar.muli c7_i32_1810 c1_i32_1811
  let v1261 : BitVec 32 := Scalar.addi c0_i32_1812 v1260
  v1261.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_130 : BitVec 32 := 6#32
  let v71 : BitVec 1 := Scalar.cmpi .eq v2 c6_i32_130
  let v72 : BitVec 32 := Scalar.extui v71
  let c0_i32_139 : BitVec 32 := 0#32
  let v73 : BitVec 1 := Scalar.cmpi .ne v72 c0_i32_139
  v73

def k0_dev57 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_dev58 : Nat :=
  let c0_i32_1805 : BitVec 32 := 0#32
  let c7_i32_1803 : BitVec 32 := 7#32
  let c1_i32_1804 : BitVec 32 := 1#32
  let v1252 : BitVec 32 := Scalar.muli c7_i32_1803 c1_i32_1804
  let v1253 : BitVec 32 := Scalar.addi c0_i32_1805 v1252
  v1253.toNat
def k0_dev59 : Nat :=
  let c0_i32_1812 : BitVec 32 := 0#32
  let c5_i32_1810 : BitVec 32 := 5#32
  let c1_i32_1811 : BitVec 32 := 1#32
  let v1260 : BitVec 32 := Scalar.muli c5_i32_1810 c1_i32_1811
  let v1261 : BitVec 32 := Scalar.addi c0_i32_1812 v1260
  v1261.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_140 : BitVec 32 := 5#32
  let v74 : BitVec 1 := Scalar.cmpi .eq v2 c5_i32_140
  let v75 : BitVec 32 := Scalar.extui v74
  let c0_i32_149 : BitVec 32 := 0#32
  let v76 : BitVec 1 := Scalar.cmpi .ne v75 c0_i32_149
  v76

def k0_dev60 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_dev61 : Nat :=
  let c0_i32_1805 : BitVec 32 := 0#32
  let c6_i32_1803 : BitVec 32 := 6#32
  let c1_i32_1804 : BitVec 32 := 1#32
  let v1252 : BitVec 32 := Scalar.muli c6_i32_1803 c1_i32_1804
  let v1253 : BitVec 32 := Scalar.addi c0_i32_1805 v1252
  v1253.toNat
def k0_dev62 : Nat :=
  let c0_i32_1812 : BitVec 32 := 0#32
  let c1_i32_1810 : BitVec 32 := 1#32
  let c1_i32_1811 : BitVec 32 := 1#32
  let v1260 : BitVec 32 := Scalar.muli c1_i32_1810 c1_i32_1811
  let v1261 : BitVec 32 := Scalar.addi c0_i32_1812 v1260
  v1261.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_150 : BitVec 32 := 5#32
  let v77 : BitVec 1 := Scalar.cmpi .eq v2 c5_i32_150
  let v78 : BitVec 32 := Scalar.extui v77
  let c0_i32_156 : BitVec 32 := 0#32
  let v79 : BitVec 1 := Scalar.cmpi .ne v78 c0_i32_156
  v79

def k0_dev63 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_dev64 : Nat :=
  let c0_i32_1805 : BitVec 32 := 0#32
  let c6_i32_1803 : BitVec 32 := 6#32
  let c1_i32_1804 : BitVec 32 := 1#32
  let v1252 : BitVec 32 := Scalar.muli c6_i32_1803 c1_i32_1804
  let v1253 : BitVec 32 := Scalar.addi c0_i32_1805 v1252
  v1253.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_157 : BitVec 32 := 1#32
  let v80 : BitVec 1 := Scalar.cmpi .eq v2 c1_i32_157
  let v81 : BitVec 32 := Scalar.extui v80
  let c0_i32_166 : BitVec 32 := 0#32
  let v82 : BitVec 1 := Scalar.cmpi .ne v81 c0_i32_166
  v82

def k0_dev65 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_dev66 : Nat :=
  let c0_i32_1806 : BitVec 32 := 0#32
  let c2_i32_1804 : BitVec 32 := 2#32
  let c1_i32_1805 : BitVec 32 := 1#32
  let v1252 : BitVec 32 := Scalar.muli c2_i32_1804 c1_i32_1805
  let v1253 : BitVec 32 := Scalar.addi c0_i32_1806 v1252
  v1253.toNat
def k0_dev67 : Nat :=
  let c0_i32_1813 : BitVec 32 := 0#32
  let c5_i32_1811 : BitVec 32 := 5#32
  let c1_i32_1812 : BitVec 32 := 1#32
  let v1260 : BitVec 32 := Scalar.muli c5_i32_1811 c1_i32_1812
  let v1261 : BitVec 32 := Scalar.addi c0_i32_1813 v1260
  v1261.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_167 : BitVec 32 := 2#32
  let v83 : BitVec 1 := Scalar.cmpi .eq v2 c2_i32_167
  let v84 : BitVec 32 := Scalar.extui v83
  let c0_i32_176 : BitVec 32 := 0#32
  let v85 : BitVec 1 := Scalar.cmpi .ne v84 c0_i32_176
  v85

def k0_dev68 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_dev69 : Nat :=
  let c0_i32_1805 : BitVec 32 := 0#32
  let c3_i32_1803 : BitVec 32 := 3#32
  let c1_i32_1804 : BitVec 32 := 1#32
  let v1252 : BitVec 32 := Scalar.muli c3_i32_1803 c1_i32_1804
  let v1253 : BitVec 32 := Scalar.addi c0_i32_1805 v1252
  v1253.toNat
def k0_dev70 : Nat :=
  let c0_i32_1812 : BitVec 32 := 0#32
  let c6_i32_1810 : BitVec 32 := 6#32
  let c1_i32_1811 : BitVec 32 := 1#32
  let v1260 : BitVec 32 := Scalar.muli c6_i32_1810 c1_i32_1811
  let v1261 : BitVec 32 := Scalar.addi c0_i32_1812 v1260
  v1261.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_181 : BitVec 32 := 512#32
  let v91 : BitVec 32 := Scalar.muli v2 c512_i32_181
  let v100 : Index := Scalar.indexCast v91
  let c0_186 : Index := 0#32
  ![v100.toNat, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_202 : BitVec 32 := 1#32
  let v111 : BitVec 1 := Scalar.cmpi .eq v2 c1_i32_202
  let v112 : BitVec 32 := Scalar.extui v111
  let c0_i32_206 : BitVec 32 := 0#32
  let v113 : BitVec 1 := Scalar.cmpi .ne v112 c0_i32_206
  v113

def k0_dev71 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_207 : BitVec 32 := 1#32
  let v114 : BitVec 1 := Scalar.cmpi .eq v2 c1_i32_207
  let v115 : BitVec 32 := Scalar.extui v114
  let c0_i32_211 : BitVec 32 := 0#32
  let v116 : BitVec 1 := Scalar.cmpi .ne v115 c0_i32_211
  v116

def k0_dev72 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_212 : BitVec 32 := 3#32
  let v117 : BitVec 1 := Scalar.cmpi .eq v2 c3_i32_212
  let v118 : BitVec 32 := Scalar.extui v117
  let c0_i32_216 : BitVec 32 := 0#32
  let v119 : BitVec 1 := Scalar.cmpi .ne v118 c0_i32_216
  v119

def k0_dev73 : Nat :=
  let c0_i32_1799 : BitVec 32 := 0#32
  let c7_i32_1797 : BitVec 32 := 7#32
  let c1_i32_1798 : BitVec 32 := 1#32
  let v1244 : BitVec 32 := Scalar.muli c7_i32_1797 c1_i32_1798
  let v1245 : BitVec 32 := Scalar.addi c0_i32_1799 v1244
  v1245.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_232 : BitVec 32 := 1#32
  let v129 : BitVec 1 := Scalar.cmpi .eq v2 c1_i32_232
  let v130 : BitVec 32 := Scalar.extui v129
  let c0_i32_236 : BitVec 32 := 0#32
  let v131 : BitVec 1 := Scalar.cmpi .ne v130 c0_i32_236
  v131

def k0_dev74 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_237 : BitVec 32 := 3#32
  let v132 : BitVec 1 := Scalar.cmpi .eq v2 c3_i32_237
  let v133 : BitVec 32 := Scalar.extui v132
  let c0_i32_241 : BitVec 32 := 0#32
  let v134 : BitVec 1 := Scalar.cmpi .ne v133 c0_i32_241
  v134

def k0_dev75 : Nat :=
  let c0_i32_1799 : BitVec 32 := 0#32
  let c7_i32_1797 : BitVec 32 := 7#32
  let c1_i32_1798 : BitVec 32 := 1#32
  let v1244 : BitVec 32 := Scalar.muli c7_i32_1797 c1_i32_1798
  let v1245 : BitVec 32 := Scalar.addi c0_i32_1799 v1244
  v1245.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_242 : BitVec 32 := 3#32
  let v135 : BitVec 1 := Scalar.cmpi .eq v2 c3_i32_242
  let v136 : BitVec 32 := Scalar.extui v135
  let c0_i32_246 : BitVec 32 := 0#32
  let v137 : BitVec 1 := Scalar.cmpi .ne v136 c0_i32_246
  v137

def k0_dev76 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_257 : BitVec 32 := 7#32
  let v144 : BitVec 1 := Scalar.cmpi .eq v2 c7_i32_257
  let v145 : BitVec 32 := Scalar.extui v144
  let c0_i32_261 : BitVec 32 := 0#32
  let v146 : BitVec 1 := Scalar.cmpi .ne v145 c0_i32_261
  v146

def k0_dev77 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_262 : BitVec 32 := 5#32
  let v147 : BitVec 1 := Scalar.cmpi .eq v2 c5_i32_262
  let v148 : BitVec 32 := Scalar.extui v147
  let c0_i32_266 : BitVec 32 := 0#32
  let v149 : BitVec 1 := Scalar.cmpi .ne v148 c0_i32_266
  v149

def k0_dev78 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_272 : BitVec 32 := 5#32
  let v153 : BitVec 1 := Scalar.cmpi .eq v2 c5_i32_272
  let v154 : BitVec 32 := Scalar.extui v153
  let c0_i32_276 : BitVec 32 := 0#32
  let v155 : BitVec 1 := Scalar.cmpi .ne v154 c0_i32_276
  v155

def k0_dev79 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_287 : BitVec 32 := 0#32
  let v162 : BitVec 1 := Scalar.cmpi .eq v2 c0_i32_287
  let v163 : BitVec 32 := Scalar.extui v162
  let c0_i32_291 : BitVec 32 := 0#32
  let v164 : BitVec 1 := Scalar.cmpi .ne v163 c0_i32_291
  v164

def k0_dev80 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_297 : BitVec 32 := 7#32
  let v168 : BitVec 1 := Scalar.cmpi .eq v2 c7_i32_297
  let v169 : BitVec 32 := Scalar.extui v168
  let c0_i32_301 : BitVec 32 := 0#32
  let v170 : BitVec 1 := Scalar.cmpi .ne v169 c0_i32_301
  v170

def k0_dev81 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_302 : BitVec 32 := 7#32
  let v171 : BitVec 1 := Scalar.cmpi .eq v2 c7_i32_302
  let v172 : BitVec 32 := Scalar.extui v171
  let c0_i32_306 : BitVec 32 := 0#32
  let v173 : BitVec 1 := Scalar.cmpi .ne v172 c0_i32_306
  v173

def k0_dev82 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_312 : BitVec 32 := 6#32
  let v177 : BitVec 1 := Scalar.cmpi .eq v2 c6_i32_312
  let v178 : BitVec 32 := Scalar.extui v177
  let c0_i32_316 : BitVec 32 := 0#32
  let v179 : BitVec 1 := Scalar.cmpi .ne v178 c0_i32_316
  v179

def k0_dev83 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_322 : BitVec 32 := 4#32
  let v183 : BitVec 1 := Scalar.cmpi .eq v2 c4_i32_322
  let v184 : BitVec 32 := Scalar.extui v183
  let c0_i32_326 : BitVec 32 := 0#32
  let v185 : BitVec 1 := Scalar.cmpi .ne v184 c0_i32_326
  v185

def k0_dev84 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_327 : BitVec 32 := 4#32
  let v186 : BitVec 1 := Scalar.cmpi .eq v2 c4_i32_327
  let v187 : BitVec 32 := Scalar.extui v186
  let c0_i32_331 : BitVec 32 := 0#32
  let v188 : BitVec 1 := Scalar.cmpi .ne v187 c0_i32_331
  v188

def k0_dev85 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_347 : BitVec 32 := 3#32
  let v198 : BitVec 1 := Scalar.cmpi .eq v2 c3_i32_347
  let v199 : BitVec 32 := Scalar.extui v198
  let c0_i32_351 : BitVec 32 := 0#32
  let v200 : BitVec 1 := Scalar.cmpi .ne v199 c0_i32_351
  v200

def k0_dev86 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_352 : BitVec 32 := 6#32
  let v201 : BitVec 1 := Scalar.cmpi .eq v2 c6_i32_352
  let v202 : BitVec 32 := Scalar.extui v201
  let c0_i32_356 : BitVec 32 := 0#32
  let v203 : BitVec 1 := Scalar.cmpi .ne v202 c0_i32_356
  v203

def k0_dev87 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_357 : BitVec 32 := 3#32
  let v204 : BitVec 1 := Scalar.cmpi .eq v2 c3_i32_357
  let v205 : BitVec 32 := Scalar.extui v204
  let c0_i32_361 : BitVec 32 := 0#32
  let v206 : BitVec 1 := Scalar.cmpi .ne v205 c0_i32_361
  v206

def k0_dev88 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_377 : BitVec 32 := 0#32
  let v216 : BitVec 1 := Scalar.cmpi .eq v2 c0_i32_377
  let v217 : BitVec 32 := Scalar.extui v216
  let c0_i32_381 : BitVec 32 := 0#32
  let v218 : BitVec 1 := Scalar.cmpi .ne v217 c0_i32_381
  v218

def k0_dev89 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_382 : BitVec 32 := 7#32
  let v219 : BitVec 1 := Scalar.cmpi .eq v2 c7_i32_382
  let v220 : BitVec 32 := Scalar.extui v219
  let c0_i32_386 : BitVec 32 := 0#32
  let v221 : BitVec 1 := Scalar.cmpi .ne v220 c0_i32_386
  v221

def k0_dev90 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_cond65 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_387 : BitVec 32 := 0#32
  let v222 : BitVec 1 := Scalar.cmpi .eq v2 c0_i32_387
  let v223 : BitVec 32 := Scalar.extui v222
  let c0_i32_391 : BitVec 32 := 0#32
  let v224 : BitVec 1 := Scalar.cmpi .ne v223 c0_i32_391
  v224

def k0_dev91 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_cond69 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_407 : BitVec 32 := 2#32
  let v234 : BitVec 1 := Scalar.cmpi .eq v2 c2_i32_407
  let v235 : BitVec 32 := Scalar.extui v234
  let c0_i32_411 : BitVec 32 := 0#32
  let v236 : BitVec 1 := Scalar.cmpi .ne v235 c0_i32_411
  v236

def k0_dev92 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_cond70 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_412 : BitVec 32 := 2#32
  let v237 : BitVec 1 := Scalar.cmpi .eq v2 c2_i32_412
  let v238 : BitVec 32 := Scalar.extui v237
  let c0_i32_416 : BitVec 32 := 0#32
  let v239 : BitVec 1 := Scalar.cmpi .ne v238 c0_i32_416
  v239

def k0_dev93 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_cond71 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_417 : BitVec 32 := 7#32
  let v240 : BitVec 1 := Scalar.cmpi .eq v2 c7_i32_417
  let v241 : BitVec 32 := Scalar.extui v240
  let c0_i32_421 : BitVec 32 := 0#32
  let v242 : BitVec 1 := Scalar.cmpi .ne v241 c0_i32_421
  v242

def k0_dev94 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_cond74 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_432 : BitVec 32 := 3#32
  let v249 : BitVec 1 := Scalar.cmpi .eq v2 c3_i32_432
  let v250 : BitVec 32 := Scalar.extui v249
  let c0_i32_436 : BitVec 32 := 0#32
  let v251 : BitVec 1 := Scalar.cmpi .ne v250 c0_i32_436
  v251

def k0_dev95 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_cond76 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_442 : BitVec 32 := 4#32
  let v255 : BitVec 1 := Scalar.cmpi .eq v2 c4_i32_442
  let v256 : BitVec 32 := Scalar.extui v255
  let c0_i32_446 : BitVec 32 := 0#32
  let v257 : BitVec 1 := Scalar.cmpi .ne v256 c0_i32_446
  v257

def k0_dev96 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_cond77 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_447 : BitVec 32 := 4#32
  let v258 : BitVec 1 := Scalar.cmpi .eq v2 c4_i32_447
  let v259 : BitVec 32 := Scalar.extui v258
  let c0_i32_451 : BitVec 32 := 0#32
  let v260 : BitVec 1 := Scalar.cmpi .ne v259 c0_i32_451
  v260

def k0_dev97 : Nat :=
  let c0_i32_1799 : BitVec 32 := 0#32
  let c7_i32_1797 : BitVec 32 := 7#32
  let c1_i32_1798 : BitVec 32 := 1#32
  let v1244 : BitVec 32 := Scalar.muli c7_i32_1797 c1_i32_1798
  let v1245 : BitVec 32 := Scalar.addi c0_i32_1799 v1244
  v1245.toNat
def k0_cond81 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_467 : BitVec 32 := 0#32
  let v270 : BitVec 1 := Scalar.cmpi .eq v2 c0_i32_467
  let v271 : BitVec 32 := Scalar.extui v270
  let c0_i32_471 : BitVec 32 := 0#32
  let v272 : BitVec 1 := Scalar.cmpi .ne v271 c0_i32_471
  v272

def k0_dev98 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_cond82 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_472 : BitVec 32 := 0#32
  let v273 : BitVec 1 := Scalar.cmpi .eq v2 c0_i32_472
  let v274 : BitVec 32 := Scalar.extui v273
  let c0_i32_476 : BitVec 32 := 0#32
  let v275 : BitVec 1 := Scalar.cmpi .ne v274 c0_i32_476
  v275

def k0_dev99 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond83 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_477 : BitVec 32 := 5#32
  let v276 : BitVec 1 := Scalar.cmpi .eq v2 c5_i32_477
  let v277 : BitVec 32 := Scalar.extui v276
  let c0_i32_481 : BitVec 32 := 0#32
  let v278 : BitVec 1 := Scalar.cmpi .ne v277 c0_i32_481
  v278

def k0_dev100 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_cond86 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_492 : BitVec 32 := 5#32
  let v285 : BitVec 1 := Scalar.cmpi .eq v2 c5_i32_492
  let v286 : BitVec 32 := Scalar.extui v285
  let c0_i32_496 : BitVec 32 := 0#32
  let v287 : BitVec 1 := Scalar.cmpi .ne v286 c0_i32_496
  v287

def k0_dev101 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_cond88 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_502 : BitVec 32 := 2#32
  let v291 : BitVec 1 := Scalar.cmpi .eq v2 c2_i32_502
  let v292 : BitVec 32 := Scalar.extui v291
  let c0_i32_506 : BitVec 32 := 0#32
  let v293 : BitVec 1 := Scalar.cmpi .ne v292 c0_i32_506
  v293

def k0_dev102 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond89 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_507 : BitVec 32 := 5#32
  let v294 : BitVec 1 := Scalar.cmpi .eq v2 c5_i32_507
  let v295 : BitVec 32 := Scalar.extui v294
  let c0_i32_511 : BitVec 32 := 0#32
  let v296 : BitVec 1 := Scalar.cmpi .ne v295 c0_i32_511
  v296

def k0_dev103 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_cond93 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_527 : BitVec 32 := 7#32
  let v306 : BitVec 1 := Scalar.cmpi .eq v2 c7_i32_527
  let v307 : BitVec 32 := Scalar.extui v306
  let c0_i32_531 : BitVec 32 := 0#32
  let v308 : BitVec 1 := Scalar.cmpi .ne v307 c0_i32_531
  v308

def k0_dev104 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_cond94 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_532 : BitVec 32 := 5#32
  let v309 : BitVec 1 := Scalar.cmpi .eq v2 c5_i32_532
  let v310 : BitVec 32 := Scalar.extui v309
  let c0_i32_536 : BitVec 32 := 0#32
  let v311 : BitVec 1 := Scalar.cmpi .ne v310 c0_i32_536
  v311

def k0_dev105 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_cond95 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_537 : BitVec 32 := 7#32
  let v312 : BitVec 1 := Scalar.cmpi .eq v2 c7_i32_537
  let v313 : BitVec 32 := Scalar.extui v312
  let c0_i32_541 : BitVec 32 := 0#32
  let v314 : BitVec 1 := Scalar.cmpi .ne v313 c0_i32_541
  v314

def k0_dev106 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond99 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_557 : BitVec 32 := 1#32
  let v324 : BitVec 1 := Scalar.cmpi .eq v2 c1_i32_557
  let v325 : BitVec 32 := Scalar.extui v324
  let c0_i32_561 : BitVec 32 := 0#32
  let v326 : BitVec 1 := Scalar.cmpi .ne v325 c0_i32_561
  v326

def k0_dev107 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_cond100 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_562 : BitVec 32 := 6#32
  let v327 : BitVec 1 := Scalar.cmpi .eq v2 c6_i32_562
  let v328 : BitVec 32 := Scalar.extui v327
  let c0_i32_566 : BitVec 32 := 0#32
  let v329 : BitVec 1 := Scalar.cmpi .ne v328 c0_i32_566
  v329

def k0_dev108 : Nat :=
  let c0_i32_1799 : BitVec 32 := 0#32
  let c7_i32_1797 : BitVec 32 := 7#32
  let c1_i32_1798 : BitVec 32 := 1#32
  let v1244 : BitVec 32 := Scalar.muli c7_i32_1797 c1_i32_1798
  let v1245 : BitVec 32 := Scalar.addi c0_i32_1799 v1244
  v1245.toNat
def k0_cond101 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_567 : BitVec 32 := 4#32
  let v330 : BitVec 1 := Scalar.cmpi .eq v2 c4_i32_567
  let v331 : BitVec 32 := Scalar.extui v330
  let c0_i32_571 : BitVec 32 := 0#32
  let v332 : BitVec 1 := Scalar.cmpi .ne v331 c0_i32_571
  v332

def k0_dev109 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_cond104 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_582 : BitVec 32 := 6#32
  let v339 : BitVec 1 := Scalar.cmpi .eq v2 c6_i32_582
  let v340 : BitVec 32 := Scalar.extui v339
  let c0_i32_586 : BitVec 32 := 0#32
  let v341 : BitVec 1 := Scalar.cmpi .ne v340 c0_i32_586
  v341

def k0_dev110 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_cond105 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_587 : BitVec 32 := 6#32
  let v342 : BitVec 1 := Scalar.cmpi .eq v2 c6_i32_587
  let v343 : BitVec 32 := Scalar.extui v342
  let c0_i32_591 : BitVec 32 := 0#32
  let v344 : BitVec 1 := Scalar.cmpi .ne v343 c0_i32_591
  v344

def k0_dev111 : Nat :=
  let c0_i32_1799 : BitVec 32 := 0#32
  let c7_i32_1797 : BitVec 32 := 7#32
  let c1_i32_1798 : BitVec 32 := 1#32
  let v1244 : BitVec 32 := Scalar.muli c7_i32_1797 c1_i32_1798
  let v1245 : BitVec 32 := Scalar.addi c0_i32_1799 v1244
  v1245.toNat
def k0_cond106 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_592 : BitVec 32 := 1#32
  let v345 : BitVec 1 := Scalar.cmpi .eq v2 c1_i32_592
  let v346 : BitVec 32 := Scalar.extui v345
  let c0_i32_596 : BitVec 32 := 0#32
  let v347 : BitVec 1 := Scalar.cmpi .ne v346 c0_i32_596
  v347

def k0_dev112 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_cond110 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_612 : BitVec 32 := 0#32
  let v357 : BitVec 1 := Scalar.cmpi .eq v2 c0_i32_612
  let v358 : BitVec 32 := Scalar.extui v357
  let c0_i32_616 : BitVec 32 := 0#32
  let v359 : BitVec 1 := Scalar.cmpi .ne v358 c0_i32_616
  v359

def k0_dev113 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond111 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_617 : BitVec 32 := 2#32
  let v360 : BitVec 1 := Scalar.cmpi .eq v2 c2_i32_617
  let v361 : BitVec 32 := Scalar.extui v360
  let c0_i32_621 : BitVec 32 := 0#32
  let v362 : BitVec 1 := Scalar.cmpi .ne v361 c0_i32_621
  v362

def k0_dev114 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_cond112 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_622 : BitVec 32 := 5#32
  let v363 : BitVec 1 := Scalar.cmpi .eq v2 c5_i32_622
  let v364 : BitVec 32 := Scalar.extui v363
  let c0_i32_626 : BitVec 32 := 0#32
  let v365 : BitVec 1 := Scalar.cmpi .ne v364 c0_i32_626
  v365

def k0_dev115 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_cond116 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_642 : BitVec 32 := 3#32
  let v375 : BitVec 1 := Scalar.cmpi .eq v2 c3_i32_642
  let v376 : BitVec 32 := Scalar.extui v375
  let c0_i32_646 : BitVec 32 := 0#32
  let v377 : BitVec 1 := Scalar.cmpi .ne v376 c0_i32_646
  v377

def k0_dev116 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_cond117 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_647 : BitVec 32 := 3#32
  let v378 : BitVec 1 := Scalar.cmpi .eq v2 c3_i32_647
  let v379 : BitVec 32 := Scalar.extui v378
  let c0_i32_651 : BitVec 32 := 0#32
  let v380 : BitVec 1 := Scalar.cmpi .ne v379 c0_i32_651
  v380

def k0_dev117 : Nat :=
  let c0_i32_1799 : BitVec 32 := 0#32
  let c7_i32_1797 : BitVec 32 := 7#32
  let c1_i32_1798 : BitVec 32 := 1#32
  let v1244 : BitVec 32 := Scalar.muli c7_i32_1797 c1_i32_1798
  let v1245 : BitVec 32 := Scalar.addi c0_i32_1799 v1244
  v1245.toNat
def k0_cond118 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_652 : BitVec 32 := 6#32
  let v381 : BitVec 1 := Scalar.cmpi .eq v2 c6_i32_652
  let v382 : BitVec 32 := Scalar.extui v381
  let c0_i32_656 : BitVec 32 := 0#32
  let v383 : BitVec 1 := Scalar.cmpi .ne v382 c0_i32_656
  v383

def k0_dev118 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_cond138 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_734 : BitVec 32 := 2#32
  let v501 : BitVec 1 := Scalar.cmpi .eq v2 c2_i32_734
  let v502 : BitVec 32 := Scalar.extui v501
  let c0_i32_738 : BitVec 32 := 0#32
  let v503 : BitVec 1 := Scalar.cmpi .ne v502 c0_i32_738
  v503

def k0_dev119 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_cond142 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_754 : BitVec 32 := 0#32
  let v513 : BitVec 1 := Scalar.cmpi .eq v2 c0_i32_754
  let v514 : BitVec 32 := Scalar.extui v513
  let c0_i32_758 : BitVec 32 := 0#32
  let v515 : BitVec 1 := Scalar.cmpi .ne v514 c0_i32_758
  v515

def k0_dev120 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_cond146 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_774 : BitVec 32 := 1#32
  let v525 : BitVec 1 := Scalar.cmpi .eq v2 c1_i32_774
  let v526 : BitVec 32 := Scalar.extui v525
  let c0_i32_778 : BitVec 32 := 0#32
  let v527 : BitVec 1 := Scalar.cmpi .ne v526 c0_i32_778
  v527

def k0_dev121 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_cond150 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_794 : BitVec 32 := 3#32
  let v537 : BitVec 1 := Scalar.cmpi .eq v2 c3_i32_794
  let v538 : BitVec 32 := Scalar.extui v537
  let c0_i32_798 : BitVec 32 := 0#32
  let v539 : BitVec 1 := Scalar.cmpi .ne v538 c0_i32_798
  v539

def k0_dev122 : Nat :=
  let c0_i32_1799 : BitVec 32 := 0#32
  let c2_i32_1797 : BitVec 32 := 2#32
  let c1_i32_1798 : BitVec 32 := 1#32
  let v1244 : BitVec 32 := Scalar.muli c2_i32_1797 c1_i32_1798
  let v1245 : BitVec 32 := Scalar.addi c0_i32_1799 v1244
  v1245.toNat
def k0_cond152 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_804 : BitVec 32 := 2#32
  let v543 : BitVec 1 := Scalar.cmpi .eq v2 c2_i32_804
  let v544 : BitVec 32 := Scalar.extui v543
  let c0_i32_808 : BitVec 32 := 0#32
  let v545 : BitVec 1 := Scalar.cmpi .ne v544 c0_i32_808
  v545

def k0_dev123 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond155 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_819 : BitVec 32 := 0#32
  let v552 : BitVec 1 := Scalar.cmpi .eq v2 c0_i32_819
  let v553 : BitVec 32 := Scalar.extui v552
  let c0_i32_823 : BitVec 32 := 0#32
  let v554 : BitVec 1 := Scalar.cmpi .ne v553 c0_i32_823
  v554

def k0_dev124 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_cond157 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_829 : BitVec 32 := 2#32
  let v558 : BitVec 1 := Scalar.cmpi .eq v2 c2_i32_829
  let v559 : BitVec 32 := Scalar.extui v558
  let c0_i32_833 : BitVec 32 := 0#32
  let v560 : BitVec 1 := Scalar.cmpi .ne v559 c0_i32_833
  v560

def k0_dev125 : Nat :=
  let c0_i32_1799 : BitVec 32 := 0#32
  let c1_i32_1797 : BitVec 32 := 1#32
  let c1_i32_1798 : BitVec 32 := 1#32
  let v1244 : BitVec 32 := Scalar.muli c1_i32_1797 c1_i32_1798
  let v1245 : BitVec 32 := Scalar.addi c0_i32_1799 v1244
  v1245.toNat
def k0_cond161 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_849 : BitVec 32 := 1#32
  let v570 : BitVec 1 := Scalar.cmpi .eq v2 c1_i32_849
  let v571 : BitVec 32 := Scalar.extui v570
  let c0_i32_853 : BitVec 32 := 0#32
  let v572 : BitVec 1 := Scalar.cmpi .ne v571 c0_i32_853
  v572

def k0_dev126 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_cond167 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_879 : BitVec 32 := 6#32
  let v588 : BitVec 1 := Scalar.cmpi .eq v2 c6_i32_879
  let v589 : BitVec 32 := Scalar.extui v588
  let c0_i32_883 : BitVec 32 := 0#32
  let v590 : BitVec 1 := Scalar.cmpi .ne v589 c0_i32_883
  v590

def k0_dev127 : Nat :=
  let c0_i32_1799 : BitVec 32 := 0#32
  let c5_i32_1797 : BitVec 32 := 5#32
  let c1_i32_1798 : BitVec 32 := 1#32
  let v1244 : BitVec 32 := Scalar.muli c5_i32_1797 c1_i32_1798
  let v1245 : BitVec 32 := Scalar.addi c0_i32_1799 v1244
  v1245.toNat
def k0_cond171 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_899 : BitVec 32 := 7#32
  let v600 : BitVec 1 := Scalar.cmpi .eq v2 c7_i32_899
  let v601 : BitVec 32 := Scalar.extui v600
  let c0_i32_903 : BitVec 32 := 0#32
  let v602 : BitVec 1 := Scalar.cmpi .ne v601 c0_i32_903
  v602

def k0_dev128 : Nat :=
  let c0_i32_1799 : BitVec 32 := 0#32
  let c6_i32_1797 : BitVec 32 := 6#32
  let c1_i32_1798 : BitVec 32 := 1#32
  let v1244 : BitVec 32 := Scalar.muli c6_i32_1797 c1_i32_1798
  let v1245 : BitVec 32 := Scalar.addi c0_i32_1799 v1244
  v1245.toNat
def k0_cond175 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_919 : BitVec 32 := 4#32
  let v612 : BitVec 1 := Scalar.cmpi .eq v2 c4_i32_919
  let v613 : BitVec 32 := Scalar.extui v612
  let c0_i32_923 : BitVec 32 := 0#32
  let v614 : BitVec 1 := Scalar.cmpi .ne v613 c0_i32_923
  v614

def k0_dev129 : Nat :=
  let c0_i32_1799 : BitVec 32 := 0#32
  let c7_i32_1797 : BitVec 32 := 7#32
  let c1_i32_1798 : BitVec 32 := 1#32
  let v1244 : BitVec 32 := Scalar.muli c7_i32_1797 c1_i32_1798
  let v1245 : BitVec 32 := Scalar.addi c0_i32_1799 v1244
  v1245.toNat
def k0_cond179 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_939 : BitVec 32 := 1#32
  let v624 : BitVec 1 := Scalar.cmpi .eq v2 c1_i32_939
  let v625 : BitVec 32 := Scalar.extui v624
  let c0_i32_943 : BitVec 32 := 0#32
  let v626 : BitVec 1 := Scalar.cmpi .ne v625 c0_i32_943
  v626

def k0_dev130 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_cond182 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_954 : BitVec 32 := 4#32
  let v633 : BitVec 1 := Scalar.cmpi .eq v2 c4_i32_954
  let v634 : BitVec 32 := Scalar.extui v633
  let c0_i32_958 : BitVec 32 := 0#32
  let v635 : BitVec 1 := Scalar.cmpi .ne v634 c0_i32_958
  v635

def k0_dev131 : Nat :=
  let c0_i32_1799 : BitVec 32 := 0#32
  let c0_i32_1797 : BitVec 32 := 0#32
  let c1_i32_1798 : BitVec 32 := 1#32
  let v1244 : BitVec 32 := Scalar.muli c0_i32_1797 c1_i32_1798
  let v1245 : BitVec 32 := Scalar.addi c0_i32_1799 v1244
  v1245.toNat
def k0_cond187 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_979 : BitVec 32 := 0#32
  let v648 : BitVec 1 := Scalar.cmpi .eq v2 c0_i32_979
  let v649 : BitVec 32 := Scalar.extui v648
  let c0_i32_983 : BitVec 32 := 0#32
  let v650 : BitVec 1 := Scalar.cmpi .ne v649 c0_i32_983
  v650

def k0_dev132 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond190 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_994 : BitVec 32 := 7#32
  let v657 : BitVec 1 := Scalar.cmpi .eq v2 c7_i32_994
  let v658 : BitVec 32 := Scalar.extui v657
  let c0_i32_998 : BitVec 32 := 0#32
  let v659 : BitVec 1 := Scalar.cmpi .ne v658 c0_i32_998
  v659

def k0_dev133 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
def k0_cond192 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1004 : BitVec 32 := 7#32
  let v663 : BitVec 1 := Scalar.cmpi .eq v2 c7_i32_1004
  let v664 : BitVec 32 := Scalar.extui v663
  let c0_i32_1008 : BitVec 32 := 0#32
  let v665 : BitVec 1 := Scalar.cmpi .ne v664 c0_i32_1008
  v665

def k0_dev134 : Nat :=
  let c0_i32_1799 : BitVec 32 := 0#32
  let c3_i32_1797 : BitVec 32 := 3#32
  let c1_i32_1798 : BitVec 32 := 1#32
  let v1244 : BitVec 32 := Scalar.muli c3_i32_1797 c1_i32_1798
  let v1245 : BitVec 32 := Scalar.addi c0_i32_1799 v1244
  v1245.toNat
def k0_cond196 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1024 : BitVec 32 := 6#32
  let v675 : BitVec 1 := Scalar.cmpi .eq v2 c6_i32_1024
  let v676 : BitVec 32 := Scalar.extui v675
  let c0_i32_1028 : BitVec 32 := 0#32
  let v677 : BitVec 1 := Scalar.cmpi .ne v676 c0_i32_1028
  v677

def k0_dev135 : Nat :=
  let c0_i32_1799 : BitVec 32 := 0#32
  let c7_i32_1797 : BitVec 32 := 7#32
  let c1_i32_1798 : BitVec 32 := 1#32
  let v1244 : BitVec 32 := Scalar.muli c7_i32_1797 c1_i32_1798
  let v1245 : BitVec 32 := Scalar.addi c0_i32_1799 v1244
  v1245.toNat
def k0_cond200 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1044 : BitVec 32 := 5#32
  let v687 : BitVec 1 := Scalar.cmpi .eq v2 c5_i32_1044
  let v688 : BitVec 32 := Scalar.extui v687
  let c0_i32_1048 : BitVec 32 := 0#32
  let v689 : BitVec 1 := Scalar.cmpi .ne v688 c0_i32_1048
  v689

def k0_dev136 : Nat :=
  let c0_i32_1799 : BitVec 32 := 0#32
  let c4_i32_1797 : BitVec 32 := 4#32
  let c1_i32_1798 : BitVec 32 := 1#32
  let v1244 : BitVec 32 := Scalar.muli c4_i32_1797 c1_i32_1798
  let v1245 : BitVec 32 := Scalar.addi c0_i32_1799 v1244
  v1245.toNat
abbrev stage0_0 : Fin 1 → Memref sig .tc .vmem S512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Script.lean ====
module

public import proofs.«01_k».proof.Proof.Gen.KernelIdeal
public import proofs.«01_k».proof.Proof.Gen.KernelIdeal.Skeleton
public import Idealize.ShloMosaic.Lib.Tactic

@[expose] public section

noncomputable section

/-! # The kernel's body as a list of guarded actions

The printed body is one long sequence of blocks `if <the device is one of these> then <a few memory operations>`.
Here it is read as a list of steps over nine kinds of action, each with its meaning as a program; the theorems at the
end say that the printed function is the program that the list denotes. -/

namespace Cert.KProof

open Idealize.ShloMosaic Idealize.SL.Sem
open Cert.KernelIdeal Cert.KernelIdeal.Gen

variable {F : FTy → Type} [FloatOps F]

/-- What a device does in one step of the body. A slot (one of sixteen half blocks of rows of the gathered operand) is
named by its index in ring order. -/
inductive Act
  /-- Signal device `d`'s barrier semaphore. -/
  | sig (d : Fin 8)
  /-- Wait for the three neighbours' signals. -/
  | barwait
  /-- Copy the device's own rows into the gathered operand. -/
  | xst
  /-- Send slot `s` on to its child number `k`, which is device `d`. -/
  | send (s : Fin 16) (k : Fin 3) (d : Fin 8)
  /-- Copy the second operand into scratch. -/
  | w8
  /-- Multiply the device's own rows and store that part of the result. -/
  | own
  /-- Wait until slot `s` has arrived. -/
  | recv (s : Fin 16)
  /-- Multiply slot `s` and store that part of the result. -/
  | mm (s : Fin 16)
  /-- Wait until the sending of slot `s` to its child number `k` is complete. -/
  | fin (s : Fin 16) (k : Fin 3)
deriving DecidableEq

/-- One step: an action that every device takes, or some that only the listed devices take. -/
inductive Step
  | raw (a : Act)
  | grd (us : List (Fin 8)) (al : List Act)
deriving DecidableEq

/-- The first row of a slot. -/
def row (s : Fin 16) : ℕ :=
  (![0, 4, 7, 3, 2, 6, 5, 1] : Fin 8 → ℕ) ⟨s.val / 2, by omega⟩ * 512 + s.val % 2 * 256

theorem row_le (s : Fin 16) : row s + 256 ≤ 4096 := by revert s; decide

/-- A slot's rows lie inside the gathered operand. -/
theorem inbX (s : Fin 16) : ∀ a, (![row s, 0] : Fin 2 → ℕ) a + S256x4096.size a ≤ S4096x4096.size a := by
  intro a; fin_cases a
  · exact row_le s
  · exact Nat.le_refl _

/-- A slot's rows lie inside the result. -/
theorem inbO (s : Fin 16) : ∀ a, (![row s, 0] : Fin 2 → ℕ) a + S256x256.size a ≤ S4096x256.size a := by
  intro a; fin_cases a
  · exact row_le s
  · exact Nat.le_refl _

theorem inbR (s : Fin 16) : ∀ a, (![s.val] : Fin 1 → ℕ) a + S1.size a ≤ S16.size a := by revert s; decide

theorem inbS (s : Fin 16) (k : Fin 3) : ∀ a, (![s.val, k.val] : Fin 2 → ℕ) a + S1x1.size a ≤ S16x3.size a := by
  revert s k; decide

/-- The program's buffers: the staged operands, the staged result, and the two scratch buffers. -/
abbrev mX : Memref sig .tc .vmem S512x4096 .fp8e5m2 := Memref.whole cc0_stg0_0
abbrev mW : Memref sig .tc .vmem S4096x256 .fp8e5m2 := Memref.whole cc0_stg1_0
abbrev mA : Memref sig .tc .smem S1 .f32 := Memref.whole cc0_stg2_0
abbrev mB : Memref sig .tc .smem S1 .f32 := Memref.whole cc0_stg3_0
abbrev mO : Memref sig .tc .vmem S4096x256 .f32 := Memref.whole cc0_stg4_0
abbrev mG : Memref sig .tc .vmem S4096x4096 .fp8e5m2 := Memref.whole cc0_scratch0
abbrev mV : Memref sig .tc .vmem S4096x256 .fp8e5m2 := Memref.whole cc0_scratch1

/-- The rows of slot `s` of the gathered operand, as a memory reference. -/
abbrev slotM (s : Fin 16) : Memref sig .tc .vmem S256x4096 .fp8e5m2 :=
  mG.slice (Rect.unit (s := S4096x4096) ![row s, 0] S256x4096.size (inbX s)) (fun _ => rfl)

/-- The rectangles that the body loads and stores. -/
abbrev rSlot (s : Fin 16) : Rect S4096x4096 := Rect.unit (s := S4096x4096) ![row s, 0] S256x4096.size (inbX s)
abbrev rOut (s : Fin 16) : Rect S4096x256 := Rect.unit (s := S4096x256) ![row s, 0] S256x256.size (inbO s)
abbrev rX : Rect S512x4096 := Rect.unit (s := S512x4096) ![0, 0] S512x4096.size facts.inb_S512x4096_S512x4096_0_0
abbrev rW : Rect S4096x256 := Rect.unit (s := S4096x256) ![0, 0] S4096x256.size facts.inb_S4096x256_S4096x256_0_0
abbrev rOwnG (c : Dev nD) : Rect S4096x4096 := Rect.unit (s := S4096x4096) (k0_off1 c) S512x4096.size (facts.k0_off1_inb c)
abbrev rOwnO (c : Dev nD) : Rect S4096x256 := Rect.unit (s := S4096x256) (k0_off2 c) S512x256.size (facts.k0_off2_inb c)

/-- The barrier semaphore, the semaphores of a slot's sends, and that of its arrival. -/
abbrev barS : Sem sig := (SemArray.scalar (sig.barrier 0 rfl) : Sems sig S_).sem
abbrev sendS (s : Fin 16) (k : Fin 3) : DmaSem sig :=
  ((cc0_scratch2.slice (Rect.unit (s := S16x3) ![s.val, k.val] S1x1.size (inbS s k))).squeeze S_ facts.squeezes_S1x1_S_).sem
abbrev recvS (s : Fin 16) : DmaSem sig :=
  ((cc0_scratch3.slice (Rect.unit (s := S16) ![s.val] S1.size (inbR s))).squeeze S_ facts.squeezes_S1_S_).sem

/-- A slot's rows fill whole words. -/
theorem wordsX (s : Fin 16) : (rSlot s).WholeWords (EltTy.packing .fp8e5m2) := by
  fin_cases s
  · exact facts.wordsfp8e5m2_S4096x4096_S256x4096_0_0
  · exact facts.wordsfp8e5m2_S4096x4096_S256x4096_256_0
  · exact facts.wordsfp8e5m2_S4096x4096_S256x4096_2048_0
  · exact facts.wordsfp8e5m2_S4096x4096_S256x4096_2304_0
  · exact facts.wordsfp8e5m2_S4096x4096_S256x4096_3584_0
  · exact facts.wordsfp8e5m2_S4096x4096_S256x4096_3840_0
  · exact facts.wordsfp8e5m2_S4096x4096_S256x4096_1536_0
  · exact facts.wordsfp8e5m2_S4096x4096_S256x4096_1792_0
  · exact facts.wordsfp8e5m2_S4096x4096_S256x4096_1024_0
  · exact facts.wordsfp8e5m2_S4096x4096_S256x4096_1280_0
  · exact facts.wordsfp8e5m2_S4096x4096_S256x4096_3072_0
  · exact facts.wordsfp8e5m2_S4096x4096_S256x4096_3328_0
  · exact facts.wordsfp8e5m2_S4096x4096_S256x4096_2560_0
  · exact facts.wordsfp8e5m2_S4096x4096_S256x4096_2816_0
  · exact facts.wordsfp8e5m2_S4096x4096_S256x4096_512_0
  · exact facts.wordsfp8e5m2_S4096x4096_S256x4096_768_0

theorem exactX (s : Fin 16) : (slotM s).view.WordExact :=
  (Memref.isWhole_whole cc0_scratch0).wordExact_slice rfl _ (wordsX s)

abbrev P (α : Type) : Type 1 := Prog (TpuEff nD τ sig (Elt F) Λ₀ .tc) α

/-- An action as a program, before the rest `k` of the body. -/
def Act.run {α : Type} (c : Dev nD) (v : F .f32) (k : P (F := F) α) : Act → P (F := F) α
  | .sig d => .op (.semSignal ((d : Dev nD), .tc) barS (1#32 : BitVec 32).toInt) fun _ => k
  | .barwait => .op (.semWait barS (3#32 : BitVec 32).toInt) fun _ => k
  | .xst =>
      .op (.load mX rX.toLoadRect (View.loadsAt_vmem facts.h_S512x4096)) fun x =>
      .op (.load mG (rOwnG c).toLoadRect (View.loadsAt_vmem facts.h_S512x4096)) fun _ =>
      .op (.store mG (rOwnG c) (k0_pay1 x) Finset.univ (View.stores_vmem facts.h_S512x4096 ((Memref.isWhole_whole cc0_scratch0).storeExact_slice rfl _ (facts.k0_off1_packedfp8e5m2 c)) (fun _ => rfl)) (.inl rfl)) fun _ => k
  | .send s j d =>
      .op (.enqueueDma (slotM s) (.remote (Dev.tc (d : Dev nD)) (slotM s) (.dma (sendS s j))) (.dma (recvS s)) (exactX s) (exactX s) ⟨⟨rfl, Or.inl rfl⟩, trivial⟩) fun _ => k
  | .w8 =>
      .op (.load mW rW.toLoadRect (View.loadsAt_vmem facts.h_S4096x256)) fun x =>
      .op (.load mV rW.toLoadRect (View.loadsAt_vmem facts.h_S4096x256)) fun _ =>
      .op (.store mV rW (k0_pay3 x) Finset.univ (View.stores_vmem facts.h_S4096x256 ((Memref.isWhole_whole cc0_scratch1).storeExact_slice rfl _ facts.packedfp8e5m2_S4096x256_S4096x256_0_0) (fun _ => rfl)) (.inl rfl)) fun _ => k
  | .own =>
      .op (.load mG (rOwnG c).toLoadRect (View.loadsAt_vmem facts.h_S512x4096)) fun a =>
      .op (.load mV rW.toLoadRect (View.loadsAt_vmem facts.h_S4096x256)) fun b =>
      .op (.load mO (rOwnO c).toLoadRect (View.loadsAt_vmem facts.h_S512x256)) fun _ =>
      .op (.store mO (rOwnO c) (k0_pay4 v a b) Finset.univ (View.stores_vmem_bits_univ facts.h_S512x256 rfl) (.inl rfl)) fun _ => k
  | .recv s => .op (.waitDma2 (recvS s) (slotM s) (slotM s) (exactX s) (exactX s)) fun _ => k
  | .mm s =>
      .op (.load mG (rSlot s).toLoadRect (View.loadsAt_vmem facts.h_S256x4096)) fun a =>
      .op (.load mV rW.toLoadRect (View.loadsAt_vmem facts.h_S4096x256)) fun b =>
      .op (.load mO (rOut s).toLoadRect (View.loadsAt_vmem facts.h_S256x256)) fun _ =>
      .op (.store mO (rOut s) (k0_pay5 v a b) Finset.univ (View.stores_vmem_bits_univ facts.h_S256x256 rfl) (.inl rfl)) fun _ => k
  | .fin s j => .op (.waitDma2 (sendS s j) (slotM s) (slotM s) (exactX s) (exactX s)) fun _ => k

/-- Some actions in a row. -/
def runActs {α : Type} (c : Dev nD) (v : F .f32) (k : P (F := F) α) : List Act → P (F := F) α
  | [] => k
  | a :: al => a.run c v (runActs c v k al)

/-- The device's index as the kernel computes it. -/
def wd (c : Dev nD) : BitVec 32 := Scalar.remsi (Scalar.divsi (Dev.word c) 1#32) 8#32

/-- Whether the device is one of those listed, as the kernel computes it: the bits of the comparisons, or-ed. -/
def bits (w : BitVec 32) : List (Fin 8) → BitVec 1 → BitVec 1
  | [], b => b
  | u :: us, b => bits w us (Scalar.ori b (Scalar.cmpi .eq w (BitVec.ofNat 32 u.val)))

/-- The condition of a guarded step. -/
def guardBit (w : BitVec 32) : List (Fin 8) → BitVec 1
  | [] => 0#1
  | u :: us => Scalar.cmpi .ne (Scalar.extui (bits w us (Scalar.cmpi .eq w (BitVec.ofNat 32 u.val))) : BitVec 32) 0#32

/-- A list of steps as a program, before the rest `k` of the body. -/
def runL {α : Type} (c : Dev nD) (v : F .f32) (k : P (F := F) α) : List Step → P (F := F) α
  | [] => k
  | .raw a :: ss => a.run c v (runL c v k ss)
  | .grd us al :: ss =>
      if _h : guardBit (wd c) us = 1#1 then runActs c v (runL c v k ss) al else runL c v k ss

/-- The steps of part 1 of the printed body. -/
def ops1 : List Step := [
  .grd [0] [.sig 1, .sig 3, .sig 4], .grd [4] [.sig 0, .sig 5, .sig 7], .grd [7] [.sig 3, .sig 4, .sig 6], .grd [3]
  [.sig 0, .sig 2, .sig 7], .grd [2] [.sig 1, .sig 3, .sig 6], .grd [6] [.sig 2, .sig 5, .sig 7], .grd [5] [.sig 1, .sig
  4, .sig 6], .grd [1] [.sig 0, .sig 2, .sig 5], .raw .barwait]

/-- The steps of part 2 before the scale is read. -/
def ops2a : List Step := [
  .raw .xst]

/-- The steps of part 2 after the scale is read. -/
def ops2b : List Step := [
  .grd [0] [.send 0 0 3, .send 0 1 4, .send 0 2 1], .grd [2] [.send 8 0 1, .send 8 1 6, .send 8 2 3], .grd [4] [.send 2
  0 5, .send 2 1 7, .send 2 2 0]]

/-- The steps of part 3 of the printed body. -/
def ops3 : List Step := [
  .grd [4] [.send 3 0 0, .send 3 1 5, .send 3 2 7], .grd [7] [.send 4 0 6, .send 4 1 4], .grd [7] [.send 5 0 3, .send 5
  1 4, .send 5 2 6], .grd [3] [.send 6 0 0, .send 6 1 7, .send 6 2 2]]

/-- The steps of part 4 of the printed body. -/
def ops4 : List Step := [
  .grd [3] [.send 7 0 2, .send 7 1 7, .send 7 2 0], .grd [0] [.send 1 0 3, .send 1 1 1, .send 1 2 4], .grd [1] [.send 15
  0 2, .send 15 1 0, .send 15 2 5], .grd [6] [.send 10 0 2, .send 10 1 5, .send 10 2 7]]

/-- The steps of part 5 of the printed body. -/
def ops5 : List Step := [
  .grd [6] [.send 11 0 2, .send 11 1 7, .send 11 2 5], .grd [5] [.send 12 0 4, .send 12 1 6, .send 12 2 1], .grd [5]
  [.send 13 0 1, .send 13 1 6], .grd [1] [.send 14 0 0, .send 14 1 2, .send 14 2 5]]

/-- The steps of part 6 of the printed body. -/
def ops6 : List Step := [
  .grd [2] [.send 9 0 1, .send 9 1 3, .send 9 2 6], .raw .w8, .raw .own, .grd [3] [.recv 0], .grd [4] [.recv 0]]

/-- The steps of part 7 of the printed body. -/
def ops7 : List Step := [
  .grd [1] [.recv 0], .grd [1] [.send 0 0 2], .grd [1] [.send 0 1 5], .grd [3] [.send 0 0 7], .grd [1] [.recv 8], .grd
  [6] [.recv 8], .grd [3] [.recv 8]]

/-- The steps of part 8 of the printed body. -/
def ops8 : List Step := [
  .grd [1] [.send 8 0 5], .grd [3] [.send 8 0 7], .grd [3] [.send 8 1 0], .grd [5] [.recv 2], .grd [7] [.recv 2], .grd
  [7] [.send 2 0 3]]

/-- The steps of part 9 of the printed body. -/
def ops9 : List Step := [
  .grd [5] [.send 2 0 6], .grd [0] [.recv 2], .grd [5] [.send 2 1 1], .grd [0] [.recv 3], .grd [5] [.recv 3], .grd [0]
  [.send 3 0 1], .grd [7] [.recv 3]]

/-- The steps of part 10 of the printed body. -/
def ops10 : List Step := [
  .grd [7] [.send 3 0 6], .grd [7] [.send 3 1 3], .grd [6] [.recv 4], .grd [6] [.send 4 0 2], .grd [4] [.recv 4], .grd
  [4] [.send 4 0 5], .grd [4] [.send 4 1 0]]

/-- The steps of part 11 of the printed body. -/
def ops11 : List Step := [
  .grd [3] [.recv 5], .grd [4] [.recv 5], .grd [6] [.recv 5], .grd [3] [.send 5 0 2], .grd [6] [.send 5 0 5], .grd [3]
  [.send 5 1 0]]

/-- The steps of part 12 of the printed body. -/
def ops12 : List Step := [
  .grd [0] [.recv 6], .grd [7] [.recv 6], .grd [2] [.recv 6], .grd [0] [.send 6 0 1], .grd [7] [.send 6 0 6], .grd [0]
  [.send 6 1 4], .grd [2] [.recv 7]]

/-- The steps of part 13 of the printed body. -/
def ops13 : List Step := [
  .grd [7] [.recv 7], .grd [0] [.recv 7], .grd [2] [.send 7 0 1], .grd [2] [.send 7 1 6], .grd [7] [.send 7 0 4], .grd
  [3] [.recv 1], .grd [1] [.recv 1]]

/-- The steps of part 14 of the printed body. -/
def ops14 : List Step := [
  .grd [3] [.send 1 0 2], .grd [4] [.recv 1], .grd [4] [.send 1 0 5], .grd [4] [.send 1 1 7], .grd [2] [.recv 15], .grd
  [0] [.recv 15]]

/-- The steps of part 15 of the printed body. -/
def ops15 : List Step := [
  .grd [5] [.recv 15], .grd [0] [.send 15 0 4], .grd [0] [.send 15 1 3], .grd [5] [.send 15 0 6], .grd [2] [.recv 10],
  .grd [5] [.recv 10], .grd [5] [.send 10 0 4]]

/-- The steps of part 16 of the printed body. -/
def ops16 : List Step := [
  .grd [7] [.recv 10], .grd [2] [.send 10 0 3], .grd [5] [.send 10 1 1], .grd [2] [.recv 11], .grd [7] [.recv 11], .grd
  [5] [.recv 11], .grd [7] [.send 11 0 4]]

/-- The steps of part 17 of the printed body. -/
def ops17 : List Step := [
  .grd [5] [.send 11 0 1], .grd [7] [.send 11 1 3], .grd [4] [.recv 12], .grd [6] [.recv 12], .grd [1] [.recv 12], .grd
  [1] [.send 12 0 2]]

/-- The steps of part 18 of the printed body. -/
def ops18 : List Step := [
  .grd [6] [.send 12 0 7], .grd [4] [.send 12 0 0], .grd [1] [.recv 13], .grd [6] [.recv 13], .grd [6] [.send 13 0 2],
  .grd [6] [.send 13 1 7], .grd [1] [.send 13 0 0]]

/-- The steps of part 19 of the printed body. -/
def ops19 : List Step := [
  .grd [0] [.recv 14], .grd [2] [.recv 14], .grd [5] [.recv 14], .grd [0] [.send 14 0 3], .grd [2] [.send 14 0 6], .grd
  [5] [.send 14 0 4], .grd [1] [.recv 9]]

/-- The steps of part 20 of the printed body. -/
def ops20 : List Step := [
  .grd [3] [.recv 9], .grd [6] [.recv 9], .grd [3] [.send 9 0 0], .grd [3] [.send 9 1 7], .grd [6] [.send 9 0 5], .grd
  [3, 4, 1] [.mm 0]]

/-- The steps of part 21 of the printed body. -/
def ops21 : List Step := [
  .grd [1, 6, 3] [.mm 8], .grd [5, 7, 0] [.mm 2], .grd [0, 5, 7] [.mm 3], .grd [6, 4] [.mm 4], .grd [3, 4, 6] [.mm 5]]

/-- The steps of part 22 of the printed body. -/
def ops22 : List Step := [
  .grd [0, 7, 2] [.mm 6], .grd [2, 7, 0] [.mm 7], .grd [3, 1, 4] [.mm 1], .grd [2, 0, 5] [.mm 15], .grd [2, 5, 7] [.mm
  10]]

/-- The steps of part 23 of the printed body. -/
def ops23 : List Step := [
  .grd [2, 7, 5] [.mm 11], .grd [4, 6, 1] [.mm 12], .grd [1, 6] [.mm 13], .grd [0, 2, 5] [.mm 14], .grd [1, 3, 6] [.mm
  9], .grd [2] [.recv 0]]

/-- The steps of part 24 of the printed body. -/
def ops24 : List Step := [
  .grd [5] [.recv 0], .grd [7] [.recv 0], .grd [2] [.send 0 0 6], .grd [5] [.recv 8], .grd [7] [.recv 8], .grd [0]
  [.recv 8]]

/-- The steps of part 25 of the printed body. -/
def ops25 : List Step := [
  .grd [0] [.send 8 0 4], .grd [3] [.recv 2], .grd [6] [.recv 2], .grd [1] [.recv 2], .grd [1] [.send 2 0 2], .grd [1]
  [.recv 3], .grd [6] [.recv 3]]

/-- The steps of part 26 of the printed body. -/
def ops26 : List Step := [
  .grd [3] [.recv 3], .grd [3] [.send 3 0 2], .grd [2] [.recv 4], .grd [2] [.send 4 0 3], .grd [5] [.recv 4], .grd [0]
  [.recv 4], .grd [0] [.send 4 0 1]]

/-- The steps of part 27 of the printed body. -/
def ops27 : List Step := [
  .grd [2] [.recv 5], .grd [2] [.send 5 0 1], .grd [5] [.recv 5], .grd [0] [.recv 5], .grd [1] [.recv 6], .grd [1]
  [.send 6 0 5]]

/-- The steps of part 28 of the printed body. -/
def ops28 : List Step := [
  .grd [6] [.recv 6], .grd [4] [.recv 6], .grd [1] [.recv 7], .grd [6] [.recv 7], .grd [4] [.recv 7], .grd [6] [.send 7
  0 5], .grd [2] [.recv 1]]

/-- The steps of part 29 of the printed body. -/
def ops29 : List Step := [
  .grd [5] [.recv 1], .grd [7] [.recv 1], .grd [7] [.send 1 0 6], .grd [4] [.recv 15], .grd [3] [.recv 15], .grd [6]
  [.recv 15], .grd [4] [.send 15 0 7]]

/-- The steps of part 30 of the printed body. -/
def ops30 : List Step := [
  .grd [4] [.recv 10], .grd [3] [.recv 10], .grd [1] [.recv 10], .grd [1] [.send 10 0 0], .grd [4] [.recv 11], .grd [1]
  [.recv 11]]

/-- The steps of part 31 of the printed body. -/
def ops31 : List Step := [
  .grd [4] [.send 11 0 0], .grd [3] [.recv 11], .grd [2] [.recv 12], .grd [7] [.recv 12], .grd [0] [.recv 12], .grd [0]
  [.send 12 0 3], .grd [2] [.recv 13]]

/-- The steps of part 32 of the printed body. -/
def ops32 : List Step := [
  .grd [7] [.recv 13], .grd [7] [.send 13 0 4], .grd [0] [.recv 13], .grd [7] [.send 13 1 3], .grd [3] [.recv 14], .grd
  [6] [.recv 14], .grd [4] [.recv 14]]

/-- The steps of part 33 of the printed body. -/
def ops33 : List Step := [
  .grd [6] [.send 14 0 7], .grd [0] [.recv 9], .grd [7] [.recv 9], .grd [5] [.recv 9], .grd [5] [.send 9 0 4], .grd [2,
  5, 7] [.mm 0]]

/-- The steps of part 34 of the printed body. -/
def ops34 : List Step := [
  .grd [5, 7, 0] [.mm 8], .grd [3, 6, 1] [.mm 2], .grd [1, 6, 3] [.mm 3], .grd [2, 5, 0] [.mm 4], .grd [2, 5, 0] [.mm 5]]

/-- The steps of part 35 of the printed body. -/
def ops35 : List Step := [
  .grd [1, 6, 4] [.mm 6], .grd [1, 6, 4] [.mm 7], .grd [2, 5, 7] [.mm 1], .grd [4, 3, 6] [.mm 15], .grd [4, 3, 1] [.mm
  10]]

/-- The steps of part 36 of the printed body. -/
def ops36 : List Step := [
  .grd [4, 1, 3] [.mm 11], .grd [2, 7, 0] [.mm 12], .grd [2, 7, 0] [.mm 13], .grd [3, 6, 4] [.mm 14], .grd [0, 7, 5]
  [.mm 9]]

/-- The steps of part 37 of the printed body. -/
def ops37 : List Step := [
  .grd [6] [.recv 0], .grd [4] [.recv 8], .grd [2] [.recv 2], .grd [2] [.recv 3], .grd [3] [.recv 4], .grd [1] [.recv
  4], .grd [1] [.recv 5]]

/-- The steps of part 38 of the printed body. -/
def ops38 : List Step := [
  .grd [5] [.recv 6], .grd [5] [.recv 7], .grd [6] [.recv 1], .grd [7] [.recv 15], .grd [0] [.recv 10], .grd [0] [.recv
  11]]

/-- The steps of part 39 of the printed body. -/
def ops39 : List Step := [
  .grd [3] [.recv 12], .grd [4] [.recv 13], .grd [3] [.recv 13], .grd [7] [.recv 14], .grd [4] [.recv 9], .grd [6] [.mm
  0], .grd [4] [.mm 8], .grd [2] [.mm 2]]

/-- The steps of part 40 of the printed body. -/
def ops40 : List Step := [
  .grd [2] [.mm 3], .grd [3, 1] [.mm 4], .grd [1] [.mm 5], .grd [5] [.mm 6], .grd [5] [.mm 7], .grd [6] [.mm 1], .grd
  [7] [.mm 15], .grd [0] [.mm 10], .grd [0] [.mm 11], .grd [3] [.mm 12]]

/-- The steps of part 41 of the printed body. -/
def ops41 : List Step := [
  .grd [4, 3] [.mm 13], .grd [7] [.mm 14], .grd [4] [.mm 9], .grd [0] [.fin 0 0], .grd [0] [.fin 0 1], .grd [0] [.fin 0
  2], .grd [1] [.fin 0 0]]

/-- The steps of part 42 of the printed body. -/
def ops42 : List Step := [
  .grd [1] [.fin 0 1], .grd [3] [.fin 0 0], .grd [2] [.fin 0 0], .grd [0] [.fin 1 0], .grd [0] [.fin 1 1], .grd [3]
  [.fin 1 0], .grd [0] [.fin 1 2]]

/-- The steps of part 43 of the printed body. -/
def ops43 : List Step := [
  .grd [4] [.fin 1 0], .grd [4] [.fin 1 1], .grd [7] [.fin 1 0], .grd [4] [.fin 2 0], .grd [4] [.fin 2 1], .grd [7]
  [.fin 2 0]]

/-- The steps of part 44 of the printed body. -/
def ops44 : List Step := [
  .grd [5] [.fin 2 0], .grd [4] [.fin 2 2], .grd [5] [.fin 2 1], .grd [1] [.fin 2 0], .grd [4] [.fin 3 0], .grd [4]
  [.fin 3 1], .grd [0] [.fin 3 0]]

/-- The steps of part 45 of the printed body. -/
def ops45 : List Step := [
  .grd [4] [.fin 3 2], .grd [7] [.fin 3 0], .grd [7] [.fin 3 1], .grd [3] [.fin 3 0], .grd [7] [.fin 4 0], .grd [6]
  [.fin 4 0], .grd [2] [.fin 4 0]]

/-- The steps of part 46 of the printed body. -/
def ops46 : List Step := [
  .grd [7] [.fin 4 1], .grd [4] [.fin 4 0], .grd [4] [.fin 4 1], .grd [0] [.fin 4 0], .grd [7] [.fin 5 0], .grd [7]
  [.fin 5 1]]

/-- The steps of part 47 of the printed body. -/
def ops47 : List Step := [
  .grd [7] [.fin 5 2], .grd [3] [.fin 5 0], .grd [2] [.fin 5 0], .grd [6] [.fin 5 0], .grd [3] [.fin 5 1], .grd [3]
  [.fin 6 0], .grd [3] [.fin 6 1]]

/-- The steps of part 48 of the printed body. -/
def ops48 : List Step := [
  .grd [3] [.fin 6 2], .grd [0] [.fin 6 0], .grd [1] [.fin 6 0], .grd [7] [.fin 6 0], .grd [0] [.fin 6 1], .grd [3]
  [.fin 7 0], .grd [3] [.fin 7 1]]

/-- The steps of part 49 of the printed body. -/
def ops49 : List Step := [
  .grd [3] [.fin 7 2], .grd [2] [.fin 7 0], .grd [2] [.fin 7 1], .grd [7] [.fin 7 0], .grd [6] [.fin 7 0], .grd [2]
  [.fin 8 0]]

/-- The steps of part 50 of the printed body. -/
def ops50 : List Step := [
  .grd [2] [.fin 8 1], .grd [2] [.fin 8 2], .grd [1] [.fin 8 0], .grd [3] [.fin 8 0], .grd [3] [.fin 8 1], .grd [0]
  [.fin 8 0], .grd [2] [.fin 9 0]]

/-- The steps of part 51 of the printed body. -/
def ops51 : List Step := [
  .grd [2] [.fin 9 1], .grd [2] [.fin 9 2], .grd [3] [.fin 9 0], .grd [3] [.fin 9 1], .grd [6] [.fin 9 0], .grd [5]
  [.fin 9 0], .grd [6] [.fin 10 0]]

/-- The steps of part 52 of the printed body. -/
def ops52 : List Step := [
  .grd [6] [.fin 10 1], .grd [5] [.fin 10 0], .grd [6] [.fin 10 2], .grd [2] [.fin 10 0], .grd [5] [.fin 10 1], .grd [1]
  [.fin 10 0]]

/-- The steps of part 53 of the printed body. -/
def ops53 : List Step := [
  .grd [6] [.fin 11 0], .grd [6] [.fin 11 1], .grd [6] [.fin 11 2], .grd [7] [.fin 11 0], .grd [5] [.fin 11 0], .grd [4]
  [.fin 11 0], .grd [7] [.fin 11 1]]

/-- The steps of part 54 of the printed body. -/
def ops54 : List Step := [
  .grd [5] [.fin 12 0], .grd [5] [.fin 12 1], .grd [5] [.fin 12 2], .grd [1] [.fin 12 0], .grd [6] [.fin 12 0], .grd [4]
  [.fin 12 0], .grd [0] [.fin 12 0]]

/-- The steps of part 55 of the printed body. -/
def ops55 : List Step := [
  .grd [5] [.fin 13 0], .grd [5] [.fin 13 1], .grd [6] [.fin 13 0], .grd [6] [.fin 13 1], .grd [7] [.fin 13 0], .grd [1]
  [.fin 13 0]]

/-- The steps of part 56 of the printed body. -/
def ops56 : List Step := [
  .grd [7] [.fin 13 1], .grd [1] [.fin 14 0], .grd [1] [.fin 14 1], .grd [1] [.fin 14 2], .grd [0] [.fin 14 0], .grd [2]
  [.fin 14 0], .grd [5] [.fin 14 0]]

/-- The steps of part 57 of the printed body. -/
def ops57 : List Step := [
  .grd [6] [.fin 14 0], .grd [1] [.fin 15 0], .grd [1] [.fin 15 1], .grd [1] [.fin 15 2], .grd [0] [.fin 15 0], .grd [0]
  [.fin 15 1], .grd [5] [.fin 15 0]]

end Cert.KProof

end
-- ==== Proof.Parts.lean ====
module

public import proofs.«01_k».proof.Proof.Script

@[expose] public section

noncomputable section

/-! # The printed body is the program of its list of steps -/

namespace Cert.KProof

open Idealize.ShloMosaic Idealize.SL.Sem
open Cert.KernelIdeal Cert.KernelIdeal.Gen

variable {F : FTy → Type} [FloatOps F]

section Parts
variable (c : Dev nD) (v : F .f32)
set_option maxRecDepth 65536

theorem part1 : k0_part1 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 =
    .op .deviceId fun c => runL c v (.ret ⟨c, wd c⟩) ops1 := by sl_kernel_rfl
theorem part2 : k0_part2 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) =
    runL c v (.op (.load mA (Rect.unit (s := S1) ![0] S1.size facts.inb_S1_S1_0).toLoadRect (View.loadsAt_rect (View.loads_smem_one rfl facts.numel1_S1))) fun f =>
      .op (.load mB (Rect.unit (s := S1) ![0] S1.size facts.inb_S1_S1_0).toLoadRect (View.loadsAt_rect (View.loads_smem_one rfl facts.numel1_S1))) fun g =>
      runL c v (.ret (k0_pay2 (f (Shape.Idx.first (facts.numel1_S1.symm ▸ Nat.one_pos))) (g (Shape.Idx.first (facts.numel1_S1.symm ▸ Nat.one_pos))))) ops2b) ops2a := by sl_kernel_rfl
theorem part3 : k0_part3 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) =
    runL c v (.ret (Scalar.extui (Scalar.cmpi .eq (wd c) 3#32))) ops3 := by sl_kernel_rfl
theorem part4 : k0_part4 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 3#32)) =
    runL c v (.ret (Scalar.extui (Scalar.cmpi .eq (wd c) 6#32))) ops4 := by sl_kernel_rfl
theorem part5 : k0_part5 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 6#32)) =
    runL c v (.ret (Scalar.extui (Scalar.cmpi .eq (wd c) 2#32))) ops5 := by sl_kernel_rfl
theorem part6 : k0_part6 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) v (Scalar.extui (Scalar.cmpi .eq (wd c) 2#32)) =
    runL c v (.ret (Scalar.extui (Scalar.cmpi .eq (wd c) 1#32))) ops6 := by sl_kernel_rfl
theorem part7 : k0_part7 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 1#32)) =
    runL c v (.ret 1#32) ops7 := by sl_kernel_rfl
theorem part8 : k0_part8 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) 1#32 =
    runL c v (.ret ⟨(Scalar.extui (Scalar.cmpi .eq (wd c) 5#32)), 0#32⟩) ops8 := by sl_kernel_rfl
theorem part9 : k0_part9 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 5#32)) 0#32 =
    runL c v (.ret (Scalar.extui (Scalar.cmpi .eq (wd c) 7#32))) ops9 := by sl_kernel_rfl
theorem part10 : k0_part10 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 7#32)) =
    runL c v (.ret 3#32) ops10 := by sl_kernel_rfl
theorem part11 : k0_part11 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) 3#32 =
    runL c v (.ret ⟨(Scalar.extui (Scalar.cmpi .eq (wd c) 0#32)), 0#32⟩) ops11 := by sl_kernel_rfl
theorem part12 : k0_part12 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 0#32)) 0#32 =
    runL c v (.ret (Scalar.extui (Scalar.cmpi .eq (wd c) 7#32))) ops12 := by sl_kernel_rfl
theorem part13 : k0_part13 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 7#32)) =
    runL c v (.ret 3#32) ops13 := by sl_kernel_rfl
theorem part14 : k0_part14 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) 3#32 =
    runL c v (.ret ⟨(Scalar.extui (Scalar.cmpi .eq (wd c) 5#32)), 0#32⟩) ops14 := by sl_kernel_rfl
theorem part15 : k0_part15 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 5#32)) 0#32 =
    runL c v (.ret (Scalar.extui (Scalar.cmpi .eq (wd c) 7#32))) ops15 := by sl_kernel_rfl
theorem part16 : k0_part16 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 7#32)) =
    runL c v (.ret 5#32) ops16 := by sl_kernel_rfl
theorem part17 : k0_part17 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) 5#32 =
    runL c v (.ret ⟨(Scalar.extui (Scalar.cmpi .eq (wd c) 6#32)), 0#32⟩) ops17 := by sl_kernel_rfl
theorem part18 : k0_part18 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 6#32)) 0#32 =
    runL c v (.ret (Scalar.extui (Scalar.cmpi .eq (wd c) 0#32))) ops18 := by sl_kernel_rfl
theorem part19 : k0_part19 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 0#32)) =
    runL c v (.ret 3#32) ops19 := by sl_kernel_rfl
theorem part20 : k0_part20 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) v 3#32 =
    runL c v (.ret ⟨(Scalar.cmpi .eq (wd c) 1#32), (Scalar.cmpi .eq (wd c) 6#32)⟩) ops20 := by sl_kernel_rfl
theorem part21 : k0_part21 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v (Scalar.cmpi .eq (wd c) 1#32) (Scalar.cmpi .eq (wd c) 6#32) =
    runL c v (.ret ⟨(Scalar.ori (Scalar.cmpi .eq (wd c) 0#32) (Scalar.cmpi .eq (wd c) 7#32)), (Scalar.cmpi .eq (wd c) 2#32)⟩) ops21 := by sl_kernel_rfl
theorem part22 : k0_part22 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v (Scalar.ori (Scalar.cmpi .eq (wd c) 0#32) (Scalar.cmpi .eq (wd c) 7#32)) (Scalar.cmpi .eq (wd c) 2#32) =
    runL c v (.ret ⟨(Scalar.ori (Scalar.cmpi .eq (wd c) 2#32) (Scalar.cmpi .eq (wd c) 7#32)), (Scalar.cmpi .eq (wd c) 5#32)⟩) ops22 := by sl_kernel_rfl
theorem part23 : k0_part23 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v (Scalar.ori (Scalar.cmpi .eq (wd c) 2#32) (Scalar.cmpi .eq (wd c) 7#32)) (Scalar.cmpi .eq (wd c) 5#32) =
    runL c v (.ret 5#32) ops23 := by sl_kernel_rfl
theorem part24 : k0_part24 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) 5#32 =
    runL c v (.ret ⟨(Scalar.extui (Scalar.cmpi .eq (wd c) 0#32)), 0#32⟩) ops24 := by sl_kernel_rfl
theorem part25 : k0_part25 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 0#32)) 0#32 =
    runL c v (.ret (Scalar.extui (Scalar.cmpi .eq (wd c) 3#32))) ops25 := by sl_kernel_rfl
theorem part26 : k0_part26 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 3#32)) =
    runL c v (.ret 2#32) ops26 := by sl_kernel_rfl
theorem part27 : k0_part27 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) 2#32 =
    runL c v (.ret ⟨(Scalar.extui (Scalar.cmpi .eq (wd c) 6#32)), 0#32⟩) ops27 := by sl_kernel_rfl
theorem part28 : k0_part28 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 6#32)) 0#32 =
    runL c v (.ret (Scalar.extui (Scalar.cmpi .eq (wd c) 5#32))) ops28 := by sl_kernel_rfl
theorem part29 : k0_part29 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 5#32)) =
    runL c v (.ret 4#32) ops29 := by sl_kernel_rfl
theorem part30 : k0_part30 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) 4#32 =
    runL c v (.ret ⟨(Scalar.extui (Scalar.cmpi .eq (wd c) 4#32)), 0#32⟩) ops30 := by sl_kernel_rfl
theorem part31 : k0_part31 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 4#32)) 0#32 =
    runL c v (.ret (Scalar.extui (Scalar.cmpi .eq (wd c) 7#32))) ops31 := by sl_kernel_rfl
theorem part32 : k0_part32 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) (Scalar.extui (Scalar.cmpi .eq (wd c) 7#32)) =
    runL c v (.ret 6#32) ops32 := by sl_kernel_rfl
theorem part33 : k0_part33 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 c (wd c) v 6#32 =
    runL c v (.ret ⟨(Scalar.cmpi .eq (wd c) 5#32), (Scalar.cmpi .eq (wd c) 7#32)⟩) ops33 := by sl_kernel_rfl
theorem part34 : k0_part34 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v (Scalar.cmpi .eq (wd c) 5#32) (Scalar.cmpi .eq (wd c) 7#32) =
    runL c v (.ret ⟨(Scalar.cmpi .eq (wd c) 1#32), (Scalar.cmpi .eq (wd c) 6#32)⟩) ops34 := by sl_kernel_rfl
theorem part35 : k0_part35 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v (Scalar.cmpi .eq (wd c) 1#32) (Scalar.cmpi .eq (wd c) 6#32) =
    runL c v (.ret ⟨(Scalar.cmpi .eq (wd c) 4#32), (Scalar.cmpi .eq (wd c) 1#32)⟩) ops35 := by sl_kernel_rfl
theorem part36 : k0_part36 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v (Scalar.cmpi .eq (wd c) 4#32) (Scalar.cmpi .eq (wd c) 1#32) =
    runL c v (.ret (Scalar.extui (Scalar.cmpi .eq (wd c) 6#32))) ops36 := by sl_kernel_rfl
theorem part37 : k0_part37 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 6#32)) =
    runL c v (.ret 5#32) ops37 := by sl_kernel_rfl
theorem part38 : k0_part38 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) 5#32 =
    runL c v (.ret ⟨(Scalar.extui (Scalar.cmpi .eq (wd c) 3#32)), 0#32⟩) ops38 := by sl_kernel_rfl
theorem part39 : k0_part39 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v (Scalar.extui (Scalar.cmpi .eq (wd c) 3#32)) 0#32 =
    runL c v (.ret ⟨(Scalar.extui (Scalar.cmpi .eq (wd c) 2#32)), 0#32⟩) ops39 := by sl_kernel_rfl
theorem part40 : k0_part40 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v (Scalar.extui (Scalar.cmpi .eq (wd c) 2#32)) 0#32 =
    runL c v (.ret 4#32) ops40 := by sl_kernel_rfl
theorem part41 : k0_part41 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) v 4#32 =
    runL c v (.ret (Scalar.extui (Scalar.cmpi .eq (wd c) 1#32))) ops41 := by sl_kernel_rfl
theorem part42 : k0_part42 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 1#32)) =
    runL c v (.ret 4#32) ops42 := by sl_kernel_rfl
theorem part43 : k0_part43 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) 4#32 =
    runL c v (.ret ⟨(Scalar.extui (Scalar.cmpi .eq (wd c) 5#32)), 0#32⟩) ops43 := by sl_kernel_rfl
theorem part44 : k0_part44 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 5#32)) 0#32 =
    runL c v (.ret (Scalar.extui (Scalar.cmpi .eq (wd c) 4#32))) ops44 := by sl_kernel_rfl
theorem part45 : k0_part45 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 4#32)) =
    runL c v (.ret 7#32) ops45 := by sl_kernel_rfl
theorem part46 : k0_part46 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) 7#32 =
    runL c v (.ret ⟨(Scalar.extui (Scalar.cmpi .eq (wd c) 7#32)), 0#32⟩) ops46 := by sl_kernel_rfl
theorem part47 : k0_part47 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 7#32)) 0#32 =
    runL c v (.ret (Scalar.extui (Scalar.cmpi .eq (wd c) 3#32))) ops47 := by sl_kernel_rfl
theorem part48 : k0_part48 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 3#32)) =
    runL c v (.ret 3#32) ops48 := by sl_kernel_rfl
theorem part49 : k0_part49 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) 3#32 =
    runL c v (.ret ⟨(Scalar.extui (Scalar.cmpi .eq (wd c) 2#32)), 0#32⟩) ops49 := by sl_kernel_rfl
theorem part50 : k0_part50 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 2#32)) 0#32 =
    runL c v (.ret (Scalar.extui (Scalar.cmpi .eq (wd c) 2#32))) ops50 := by sl_kernel_rfl
theorem part51 : k0_part51 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 2#32)) =
    runL c v (.ret 6#32) ops51 := by sl_kernel_rfl
theorem part52 : k0_part52 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) 6#32 =
    runL c v (.ret ⟨(Scalar.extui (Scalar.cmpi .eq (wd c) 6#32)), 0#32⟩) ops52 := by sl_kernel_rfl
theorem part53 : k0_part53 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 6#32)) 0#32 =
    runL c v (.ret (Scalar.extui (Scalar.cmpi .eq (wd c) 5#32))) ops53 := by sl_kernel_rfl
theorem part54 : k0_part54 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 5#32)) =
    runL c v (.ret 5#32) ops54 := by sl_kernel_rfl
theorem part55 : k0_part55 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) 5#32 =
    runL c v (.ret ⟨(Scalar.extui (Scalar.cmpi .eq (wd c) 7#32)), 0#32⟩) ops55 := by sl_kernel_rfl
theorem part56 : k0_part56 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 7#32)) 0#32 =
    runL c v (.ret (Scalar.extui (Scalar.cmpi .eq (wd c) 6#32))) ops56 := by sl_kernel_rfl
theorem part57 : k0_part57 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 (wd c) (Scalar.extui (Scalar.cmpi .eq (wd c) 6#32)) =
    runL c v (.ret 4#32) ops57 := by sl_kernel_rfl

end Parts

end Cert.KProof

end
-- ==== Proof.Body.lean ====
module

public import proofs.«01_k».proof.Proof.Parts

@[expose] public section

noncomputable section

/-! # The printed body is the program of its list of steps -/

namespace Cert.KProof

open Idealize.ShloMosaic Idealize.SL.Sem
open Cert.KernelIdeal Cert.KernelIdeal.Gen

variable {F : FTy → Type} [FloatOps F]

/-- The steps before the scale is read. -/
def opsA : List Step := ops1 ++ (ops2a ++ [])

/-- The steps of the parts after the scale is read. -/
def opsM : List Step := ops2b ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26 ++ (ops27 ++ (ops28 ++ (ops29 ++ (ops30 ++ (ops31 ++ (ops32 ++ (ops33 ++ (ops34 ++ (ops35 ++ (ops36 ++ (ops37 ++ (ops38 ++ (ops39 ++ (ops40 ++ (ops41 ++ (ops42 ++ (ops43 ++ (ops44 ++ (ops45 ++ (ops46 ++ (ops47 ++ (ops48 ++ (ops49 ++ (ops50 ++ (ops51 ++ (ops52 ++ (ops53 ++ (ops54 ++ (ops55 ++ (ops56 ++ (ops57 ++ [])))))))))))))))))))))))))))))))))))))))))))))))))))))))

/-- The steps after the scale is read. -/
def opsB : List Step := opsM ++ [.grd [4] [.fin 15 0]]

/-- What follows a program of steps is that program's own continuation. -/
theorem runActs_bind {α β : Type} (c : Dev nD) (v : F .f32) (k : P (F := F) α) (f : α → P (F := F) β) :
    ∀ al : List Act, Prog.bind (runActs c v k al) f = runActs c v (Prog.bind k f) al
  | [] => rfl
  | a :: al => by
      have ih := runActs_bind c v k f al
      cases a <;> simp only [runActs, Act.run, Prog.bind, ih]

theorem runL_bind {α β : Type} (c : Dev nD) (v : F .f32) (k : P (F := F) α) (f : α → P (F := F) β) :
    ∀ ss : List Step, Prog.bind (runL c v k ss) f = runL c v (Prog.bind k f) ss
  | [] => rfl
  | .raw a :: ss => by
      have ih := runL_bind c v k f ss
      cases a <;> simp only [runL, Act.run, Prog.bind, ih]
  | .grd us al :: ss => by
      have ih := runL_bind c v k f ss
      unfold runL
      split
      · rw [runActs_bind, ih]
      · exact ih

theorem runL_append {α : Type} (c : Dev nD) (v : F .f32) (k : P (F := F) α) (tt : List Step) :
    ∀ ss : List Step, runL c v k (ss ++ tt) = runL c v (runL c v k tt) ss
  | [] => rfl
  | .raw a :: ss => by
      have ih := runL_append c v k tt ss
      cases a <;> simp only [List.cons_append, runL, Act.run, ih]
  | .grd us al :: ss => by
      have ih := runL_append c v k tt ss
      simp only [List.cons_append, runL, ih]

/-- The one word of a scale operand, out of the contents that a load of it gives. -/
abbrev word1 (f : Vec F S1 .f32) : F .f32 := f (Shape.Idx.first (facts.numel1_S1.symm ▸ Nat.one_pos))

/-- The rectangle of a scale operand. -/
abbrev r1 : Rect S1 := Rect.unit (s := S1) ![0] S1.size facts.inb_S1_S1_0

/-- A part that is a list of steps, followed by what is a list of steps, is the two lists in a row. -/
theorem bind_app {α β : Type} {c : Dev nD} {v : F .f32} {p : P (F := F) α} {f : α → P (F := F) β} {r : α}
    {ss tt : List Step} {k : P (F := F) β} (h : p = runL c v (.ret r) ss) (hk : f r = runL c v k tt) :
    Prog.bind p f = runL c v k (ss ++ tt) := by
  rw [h, runL_bind, runL_append, ← hk]; rfl

/-- Part 58, which calls the parts before it in order, as a list of steps. -/
theorem part58 (v : F .f32) : k0_part58 (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 =
    .op .deviceId fun c => runL c v (.op (.load mA r1.toLoadRect (View.loadsAt_rect (View.loads_smem_one rfl facts.numel1_S1))) fun f =>
      .op (.load mB r1.toLoadRect (View.loadsAt_rect (View.loads_smem_one rfl facts.numel1_S1))) fun g =>
      runL c (k0_pay2 (word1 f) (word1 g)) (.ret (Scalar.extui (Scalar.cmpi .eq (wd c) 4#32))) opsM) opsA := by
  rw [k0_part58_eq_skeleton]
  unfold k0_part58_skel
  refine (congrArg (Prog.bind · _) (part1 v)).trans ?_
  refine congrArg (Prog.op TpuEff.deviceId) (funext fun c => ?_)
  refine bind_app rfl ?_
  refine (congrArg (Prog.bind · _) (part2 c v)).trans ?_
  rw [runL_bind, runL_append]
  refine congrArg (fun k => runL c v k ops2a) ?_
  refine congrArg (Prog.op _) (funext fun f => ?_)
  refine congrArg (Prog.op _) (funext fun g => ?_)
  refine bind_app rfl ?_
  refine bind_app (part3 c _) ?_
  refine bind_app (part4 c _) ?_
  refine bind_app (part5 c _) ?_
  refine bind_app (part6 c _) ?_
  refine bind_app (part7 c _) ?_
  refine bind_app (part8 c _) ?_
  refine bind_app (part9 c _) ?_
  refine bind_app (part10 c _) ?_
  refine bind_app (part11 c _) ?_
  refine bind_app (part12 c _) ?_
  refine bind_app (part13 c _) ?_
  refine bind_app (part14 c _) ?_
  refine bind_app (part15 c _) ?_
  refine bind_app (part16 c _) ?_
  refine bind_app (part17 c _) ?_
  refine bind_app (part18 c _) ?_
  refine bind_app (part19 c _) ?_
  refine bind_app (part20 c _) ?_
  refine bind_app (part21 c _) ?_
  refine bind_app (part22 c _) ?_
  refine bind_app (part23 c _) ?_
  refine bind_app (part24 c _) ?_
  refine bind_app (part25 c _) ?_
  refine bind_app (part26 c _) ?_
  refine bind_app (part27 c _) ?_
  refine bind_app (part28 c _) ?_
  refine bind_app (part29 c _) ?_
  refine bind_app (part30 c _) ?_
  refine bind_app (part31 c _) ?_
  refine bind_app (part32 c _) ?_
  refine bind_app (part33 c _) ?_
  refine bind_app (part34 c _) ?_
  refine bind_app (part35 c _) ?_
  refine bind_app (part36 c _) ?_
  refine bind_app (part37 c _) ?_
  refine bind_app (part38 c _) ?_
  refine bind_app (part39 c _) ?_
  refine bind_app (part40 c _) ?_
  refine bind_app (part41 c _) ?_
  refine bind_app (part42 c _) ?_
  refine bind_app (part43 c _) ?_
  refine bind_app (part44 c _) ?_
  refine bind_app (part45 c _) ?_
  refine bind_app (part46 c _) ?_
  refine bind_app (part47 c _) ?_
  refine bind_app (part48 c _) ?_
  refine bind_app (part49 c _) ?_
  refine bind_app (part50 c _) ?_
  refine bind_app (part51 c _) ?_
  refine bind_app (part52 c _) ?_
  refine bind_app (part53 c _) ?_
  refine bind_app (part54 c _) ?_
  refine bind_app (part55 c _) ?_
  refine bind_app (part56 c _) ?_
  refine bind_app (part57 c _) ?_
  rfl

/-- The printed kernel function is: read the device's index, the steps before the scale is read, read the two scale
words, and the rest of the steps at their product. -/
theorem body_eq (v : F .f32) : cc0_body (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3 =
    .op .deviceId fun c => runL c v (.op (.load mA r1.toLoadRect (View.loadsAt_rect (View.loads_smem_one rfl facts.numel1_S1))) fun f =>
      .op (.load mB r1.toLoadRect (View.loadsAt_rect (View.loads_smem_one rfl facts.numel1_S1))) fun g =>
      runL c (k0_pay2 (word1 f) (word1 g)) (.ret PUnit.unit) opsB) opsA := by
  rw [cc0_body_eq_skeleton]
  unfold cc0_body_skel
  refine (congrArg (Prog.bind · _) (part58 v)).trans ?_
  refine congrArg (Prog.op TpuEff.deviceId) (funext fun c => ?_)
  refine (runL_bind c v _ _ opsA).trans ?_
  refine congrArg (fun k => runL c v k opsA) ?_
  refine congrArg (Prog.op _) (funext fun f => ?_)
  refine congrArg (Prog.op _) (funext fun g => ?_)
  refine (runL_bind c _ _ _ opsM).trans ?_
  rw [opsB, runL_append]
  refine congrArg (fun k => runL c _ k opsM) ?_
  sl_kernel_rfl

end Cert.KProof

end
-- ==== Proof.Net.lean ====
module

public import proofs.«01_k».proof.Proof.Body

@[expose] public section

noncomputable section

/-! # The bookkeeping of the gather, as tokens

What a device holds while the body runs is a list of tokens; an action takes some and leaves others. Whether the whole
body can be run that way, and what is left at its end, is decided by evaluation, for each of the eight devices. The
meaning of the tokens, and that the actions do to it what is said here, is in the modules that follow. -/

namespace Cert.KProof

open Idealize.ShloMosaic Cert.KernelIdeal

/-- The tree by which each slot travels: its arcs (sender, receiver) in the order of the program, device numbers. -/
def tree : Fin 16 → List (Fin 8 × Fin 8) := ![
  [(0, 3), (0, 4), (0, 1), (1, 2), (1, 5), (3, 7), (2, 6)],
  [(0, 3), (0, 1), (3, 2), (0, 4), (4, 5), (4, 7), (7, 6)],
  [(4, 5), (4, 7), (7, 3), (5, 6), (4, 0), (5, 1), (1, 2)],
  [(4, 0), (4, 5), (0, 1), (4, 7), (7, 6), (7, 3), (3, 2)],
  [(7, 6), (6, 2), (2, 3), (7, 4), (4, 5), (4, 0), (0, 1)],
  [(7, 3), (7, 4), (7, 6), (3, 2), (2, 1), (6, 5), (3, 0)],
  [(3, 0), (3, 7), (3, 2), (0, 1), (1, 5), (7, 6), (0, 4)],
  [(3, 2), (3, 7), (3, 0), (2, 1), (2, 6), (7, 4), (6, 5)],
  [(2, 1), (2, 6), (2, 3), (1, 5), (3, 7), (3, 0), (0, 4)],
  [(2, 1), (2, 3), (2, 6), (3, 0), (3, 7), (6, 5), (5, 4)],
  [(6, 2), (6, 5), (5, 4), (6, 7), (2, 3), (5, 1), (1, 0)],
  [(6, 2), (6, 7), (6, 5), (7, 4), (5, 1), (4, 0), (7, 3)],
  [(5, 4), (5, 6), (5, 1), (1, 2), (6, 7), (4, 0), (0, 3)],
  [(5, 1), (5, 6), (6, 2), (6, 7), (7, 4), (1, 0), (7, 3)],
  [(1, 0), (1, 2), (1, 5), (0, 3), (2, 6), (5, 4), (6, 7)],
  [(1, 2), (1, 0), (1, 5), (0, 4), (0, 3), (5, 6), (4, 7)]]

/-- The receiver number `k` to which device `c` sends slot `s` on; `c` itself if there is none. -/
def child (c : Fin 8) (s : Fin 16) (k : Fin 3) : Fin 8 :=
  (((tree s).filter fun a => a.1 = c).map Prod.snd).getD k.val c

/-- The device from which `d` gets slot `s`; `d` itself for its own slots. -/
def par (d : Fin 8) (s : Fin 16) : Fin 8 :=
  (((tree s).filter fun a => a.2 = d).map Prod.fst).headD d

/-- How many transfers slot `s` makes before it is at device `d`, at most three. -/
def depth (d : Fin 8) (s : Fin 16) : ℕ :=
  if par d s = d then 0
  else if par (par d s) s = par d s then 1
  else if par (par (par d s) s) s = par (par d s) s then 2
  else 3

/-- A device's three neighbours. -/
def nbrs : Fin 8 → List (Fin 8) := ![[1, 3, 4], [0, 2, 5], [1, 3, 6], [0, 2, 7], [0, 5, 7], [1, 4, 6], [2, 5, 7], [3, 4, 6]]

/-- A device's own two slots. -/
def own0 : Fin 8 → Fin 16 := ![0, 14, 8, 6, 2, 12, 10, 4]
def own1 : Fin 8 → Fin 16 := ![1, 15, 9, 7, 3, 13, 11, 5]

/-- All (slot, child number) pairs, and all slots, in order. -/
def pairs : List (Fin 16 × Fin 3) := (List.finRange 16).flatMap fun s => [(s, 0), (s, 1), (s, 2)]
def slots : List (Fin 16) := List.finRange 16

/-- The (slot, child number) pairs that device `c` sends to device `d`. -/
def outs (c d : Fin 8) : List (Fin 16 × Fin 3) := pairs.filter fun x => child c x.1 x.2 = d ∧ d ≠ c

/-- The semaphores of the kernel on one device: of each send, of each arrival, and the barrier's. -/
abbrev CI : Type := (Fin 16 × Fin 3) ⊕ (Fin 16 ⊕ Unit)
abbrev CI.send (s : Fin 16) (k : Fin 3) : CI := .inl (s, k)
abbrev CI.recv (s : Fin 16) : CI := .inr (.inl s)
abbrev CI.bar : CI := .inr (.inr ())

/-- What a device may hold. -/
inductive Tok
  /-- The duty to signal device `d`'s barrier. -/
  | sg (d : Fin 8)
  /-- The barrier wait ahead; the barrier done with. -/
  | bw | bd
  /-- The rows of slot `s` on its child number `k`. -/
  | dst (s : Fin 16) (k : Fin 3)
  /-- A send of slot `s` to its child number `k`: ahead, in flight, done with. -/
  | st (s : Fin 16) (k : Fin 3)
  | fl (s : Fin 16) (k : Fin 3)
  | sd (s : Fin 16) (k : Fin 3)
  /-- The arrival of slot `s`: ahead, done with. -/
  | rt (s : Fin 16)
  | rd (s : Fin 16)
  /-- A quarter of the right to slot `s`, filled. -/
  | hold (s : Fin 16) (q : Fin 4)
  /-- The device's own slots, not yet filled. -/
  | raw
  /-- The staged operands. -/
  | xw | ww
  /-- The second operand's copy: not yet made, made. -/
  | w8t | w8d
  /-- The result's rows of slot `s`: not yet computed, computed. -/
  | mt (s : Fin 16)
  | md (s : Fin 16)
deriving DecidableEq

/-- The four quarters of a filled slot. -/
def quarters (s : Fin 16) : List Tok := [.hold s 0, .hold s 1, .hold s 2, .hold s 3]

/-- What an action takes. -/
def pre (c : Fin 8) : Act → List Tok
  | .sig d => [.sg d]
  | .barwait => [.bw]
  | .xst => [.xw, .raw]
  | .send s k _ => [.st s k, .dst s k, .hold s k.succ]
  | .w8 => [.ww, .w8t]
  | .own => [.hold (own0 c) 0, .hold (own1 c) 0, .mt (own0 c), .mt (own1 c), .w8d]
  | .recv s => [.rt s]
  | .mm s => [.hold s 0, .mt s, .w8d]
  | .fin s k => [.fl s k]

/-- What the barrier brings: the rows on the neighbours that this device will send to. -/
def dsts (c : Fin 8) : List Tok := (nbrs c).flatMap fun d => (outs c d).map fun x => .dst x.1 x.2

/-- What an action leaves. -/
def post (c : Fin 8) : Act → List Tok
  | .sig _ => []
  | .barwait => .bd :: dsts c
  | .xst => .xw :: (quarters (own0 c) ++ quarters (own1 c))
  | .send s k _ => [.fl s k]
  | .w8 => [.ww, .w8d]
  | .own => [.hold (own0 c) 0, .hold (own1 c) 0, .md (own0 c), .md (own1 c), .w8d]
  | .recv s => .rd s :: quarters s
  | .mm s => [.hold s 0, .md s, .w8d]
  | .fin s k => [.sd s k, .hold s k.succ]

/-- The semaphore cell that a token owes units to. -/
def target (c : Fin 8) : Tok → Option (Fin 8 × CI)
  | .sg d => some (d, .bar)
  | .st s k => some (child c s k, .recv s)
  | _ => none

/-- The order in which cells are waited for. -/
def lvl (g : Fin 8 × CI) : ℕ :=
  match g.2 with
  | .inl _ => 0
  | .inr (.inl s) => 1 + depth g.1 s
  | .inr (.inr _) => 1

/-- The cell that an action waits for. -/
def waits? (c : Fin 8) : Act → Option (Fin 8 × CI)
  | .barwait => some (c, .bar)
  | .recv s => some (c, .recv s)
  | .fin s k => some (c, .send s k)
  | _ => none

/-- Whether every cell that the tokens owe to comes after the cell `g`. -/
def above (c : Fin 8) (g : Fin 8 × CI) (X : List Tok) : Bool :=
  X.all fun t => match target c t with
    | none => true
    | some g' => lvl g < lvl g'

/-- What else an action asks for. -/
def okAct (c : Fin 8) : Act → Bool
  | .sig d => d ∈ nbrs c
  | .send s k d => child c s k = d ∧ d ≠ c
  | .recv s => par c s ≠ c
  | .mm s => par c s ≠ c
  | .fin s k => child c s k ≠ c
  | _ => true

/-- Take some tokens out of a list. -/
def takeToks : List Tok → List Tok → Option (List Tok)
  | X, [] => some X
  | X, t :: ts => if t ∈ X then takeToks (X.erase t) ts else none

/-- The tokens after an action. -/
def stepAct (c : Fin 8) (X : List Tok) (a : Act) : Option (List Tok) :=
  if okAct c a then
    match takeToks X (pre c a) with
    | none => none
    | some Y =>
      match waits? c a with
      | none => some (post c a ++ Y)
      | some g => if above c g Y then some (post c a ++ Y) else none
  else none

/-- The tokens after some actions. -/
def stepActs (c : Fin 8) : List Tok → List Act → Option (List Tok)
  | X, [] => some X
  | X, a :: al => (stepAct c X a).bind fun Y => stepActs c Y al

/-- The tokens after some steps. -/
def stepL (c : Fin 8) : List Tok → List Step → Option (List Tok)
  | X, [] => some X
  | X, .raw a :: ss => (stepAct c X a).bind fun Y => stepL c Y ss
  | X, .grd us al :: ss =>
      if guardBit (wd c) us = 1#1 then (stepActs c X al).bind fun Y => stepL c Y ss else stepL c X ss

/-- What device `c` holds at first. -/
def init (c : Fin 8) : List Tok :=
  [.bw, .xw, .raw, .ww, .w8t] ++ ((nbrs c).map .sg ++ (slots.map (fun s => if par c s = c then .rd s else .rt s)
    ++ (pairs.map (fun x => if child c x.1 x.2 = c then .sd x.1 x.2 else .st x.1 x.2) ++ slots.map .mt)))

/-- What device `c` holds at last. -/
def final : List Tok :=
  [.bd, .xw, .ww, .w8d] ++ (slots.map .rd ++ (pairs.map (fun x => .sd x.1 x.2) ++ (slots.map .md ++ slots.flatMap quarters)))

/-- What device `c` holds when it reads the scale. -/
def mids (c : Fin 8) : List Tok := (stepL c (init c) opsA).getD []

/-- What device `c` holds after the last step. -/
def ends (c : Fin 8) : List Tok := (stepL c (mids c) opsB).getD []

/-- The steps before the scale is read can be run. -/
theorem checkA (c : Fin 8) : stepL c (init c) opsA = some (mids c) := by
  revert c; decide +kernel

/-- The steps after the scale is read can be run. -/
theorem checkB (c : Fin 8) : stepL c (mids c) opsB = some (ends c) := by
  revert c; decide +kernel

/-- They end with what is wanted at last. -/
theorem ends_perm (c : Fin 8) : (ends c).Perm final := by
  revert c; decide +kernel

end Cert.KProof

end
-- ==== Proof.Mem.lean ====
module

public import proofs.«01_k».proof.Proof.Net
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry

@[expose] public section

noncomputable section

/-! # Rows of the buffers, and what the buffers hold -/

namespace Cert.KProof

open Idealize.ShloMosaic Idealize.ShloMosaic.TcCoe Idealize.SL.Sem
open Cert.KernelIdeal Cert.KernelIdeal.Gen

variable {F : FTy → Type} [FloatOps F]

/-! ## Rows -/

/-- The slot that starts at row `256 r`. -/
def slotAt : Fin 16 → Fin 16 := ![0, 1, 14, 15, 8, 9, 6, 7, 2, 3, 12, 13, 10, 11, 4, 5]

theorem row_slotAt (r : Fin 16) : row (slotAt r) = 256 * r.val := by revert r; decide
theorem row_div (s : Fin 16) : row s / 256 < 16 := by revert s; decide
theorem slotAt_row (s : Fin 16) : slotAt ⟨row s / 256, row_div s⟩ = s := by revert s; decide
theorem row_mul (s : Fin 16) : row s = 256 * (row s / 256) := by revert s; decide

/-- The slot that holds row `n`. -/
def slotOf (n : ℕ) (h : n < 4096) : Fin 16 := slotAt ⟨n / 256, by omega⟩

theorem slotOf_eq (n : ℕ) (h : n < 4096) (s : Fin 16) (h₁ : row s ≤ n) (h₂ : n < row s + 256) : slotOf n h = s := by
  have e : n / 256 = row s / 256 := by have := row_mul s; omega
  unfold slotOf
  rw [show (⟨n / 256, by omega⟩ : Fin 16) = ⟨row s / 256, row_div s⟩ from Fin.ext e]
  exact slotAt_row s

theorem slotOf_lo (n : ℕ) (h : n < 4096) : row (slotOf n h) ≤ n := by
  unfold slotOf; rw [row_slotAt]; show 256 * (n / 256) ≤ n; omega
theorem slotOf_hi (n : ℕ) (h : n < 4096) : n < row (slotOf n h) + 256 := by
  unfold slotOf; rw [row_slotAt]; show n < 256 * (n / 256) + 256; omega

/-- The device whose own rows hold row `n`. -/
def devOf (n : ℕ) (h : n < 4096) : Fin 8 := ⟨n / 512, by omega⟩

theorem row_own0 (c : Fin 8) : row (own0 c) = 512 * c.val := by revert c; decide
theorem row_own1 (c : Fin 8) : row (own1 c) = 512 * c.val + 256 := by revert c; decide
theorem par_own (c : Fin 8) (s : Fin 16) : par c s = c ↔ s = own0 c ∨ s = own1 c := by revert c s; decide +kernel
theorem off1 (c : Dev nD) : k0_off1 c = ![512 * c.val, 0] := by revert c; decide +kernel
theorem off2 (c : Dev nD) : k0_off2 c = ![512 * c.val, 0] := by revert c; decide +kernel

/-- The rows of a slot of the gathered operand, its rows of the result, and a device's own rows of either. -/
abbrev gSet (s : Fin 16) : Finset S4096x4096.Idx := (mG.access (rSlot s) : View sig .tc _ _ _).set
abbrev oSet (s : Fin 16) : Finset S4096x256.Idx := (mO.access (rOut s) : View sig .tc _ _ _).set
abbrev gOwn (c : Dev nD) : Finset S4096x4096.Idx := (mG.access (rOwnG c) : View sig .tc _ _ _).set
abbrev oOwn (c : Dev nD) : Finset S4096x256.Idx := (mO.access (rOwnO c) : View sig .tc _ _ _).set

theorem mem_gSet (s : Fin 16) (i : S4096x4096.Idx) : i ∈ gSet s ↔ row s ≤ (i 0).val ∧ (i 0).val < row s + 256 := by
  refine ValueKit.mem_set_slice_whole_iff cc0_scratch0 (rSlot s) i ?_
  rw [Rect.mem_set_unit]
  refine ⟨fun h => h 0, fun h a => ?_⟩
  fin_cases a
  · exact h
  · exact ⟨Nat.zero_le _, (Nat.zero_add _).symm ▸ (i 1).isLt⟩

theorem mem_oSet (s : Fin 16) (i : S4096x256.Idx) : i ∈ oSet s ↔ row s ≤ (i 0).val ∧ (i 0).val < row s + 256 := by
  refine ValueKit.mem_set_slice_whole_iff cc0_stg4_0 (rOut s) i ?_
  rw [Rect.mem_set_unit]
  refine ⟨fun h => h 0, fun h a => ?_⟩
  fin_cases a
  · exact h
  · exact ⟨Nat.zero_le _, (Nat.zero_add _).symm ▸ (i 1).isLt⟩

theorem mem_gOwn (c : Dev nD) (i : S4096x4096.Idx) : i ∈ gOwn c ↔ 512 * c.val ≤ (i 0).val ∧ (i 0).val < 512 * c.val + 512 := by
  refine ValueKit.mem_set_slice_whole_iff cc0_scratch0 (rOwnG c) i ?_
  rw [Rect.mem_set_unit, off1]
  refine ⟨fun h => h 0, fun h a => ?_⟩
  fin_cases a
  · exact h
  · exact ⟨Nat.zero_le _, (Nat.zero_add _).symm ▸ (i 1).isLt⟩

theorem mem_oOwn (c : Dev nD) (i : S4096x256.Idx) : i ∈ oOwn c ↔ 512 * c.val ≤ (i 0).val ∧ (i 0).val < 512 * c.val + 512 := by
  refine ValueKit.mem_set_slice_whole_iff cc0_stg4_0 (rOwnO c) i ?_
  rw [Rect.mem_set_unit, off2]
  refine ⟨fun h => h 0, fun h a => ?_⟩
  fin_cases a
  · exact h
  · exact ⟨Nat.zero_le _, (Nat.zero_add _).symm ▸ (i 1).isLt⟩

/-- A device's own rows are its two slots. -/
theorem gOwn_eq (c : Dev nD) : gOwn c = gSet (own0 c) ∪ gSet (own1 c) := by
  ext i
  rw [Finset.mem_union, mem_gOwn, mem_gSet, mem_gSet, row_own0, row_own1]
  omega

theorem oOwn_eq (c : Dev nD) : oOwn c = oSet (own0 c) ∪ oSet (own1 c) := by
  ext i
  rw [Finset.mem_union, mem_oOwn, mem_oSet, mem_oSet, row_own0, row_own1]
  omega

/-- Different slots have no row in common. -/
theorem gSet_disj {s t : Fin 16} (h : s ≠ t) : Disjoint (gSet s) (gSet t) := by
  refine Finset.disjoint_left.mpr fun i hs ht => h ?_
  rw [mem_gSet] at hs ht
  exact (slotOf_eq _ (i 0).isLt s hs.1 hs.2).symm.trans (slotOf_eq _ (i 0).isLt t ht.1 ht.2)

theorem oSet_disj {s t : Fin 16} (h : s ≠ t) : Disjoint (oSet s) (oSet t) := by
  refine Finset.disjoint_left.mpr fun i hs ht => h ?_
  rw [mem_oSet] at hs ht
  exact (slotOf_eq _ (i 0).isLt s hs.1 hs.2).symm.trans (slotOf_eq _ (i 0).isLt t ht.1 ht.2)

theorem own_ne (c : Fin 8) : own0 c ≠ own1 c := by revert c; decide

/-- All the slots together are the buffer. -/
theorem gSet_all : Finset.univ.biUnion gSet = Finset.univ := by
  ext i
  simp only [Finset.mem_biUnion, Finset.mem_univ, true_and, iff_true]
  exact ⟨slotOf _ (i 0).isLt, (mem_gSet _ i).mpr ⟨slotOf_lo _ _, slotOf_hi _ _⟩⟩

theorem oSet_all : Finset.univ.biUnion oSet = Finset.univ := by
  ext i
  simp only [Finset.mem_biUnion, Finset.mem_univ, true_and, iff_true]
  exact ⟨slotOf _ (i 0).isLt, (mem_oSet _ i).mpr ⟨slotOf_lo _ _, slotOf_hi _ _⟩⟩

/-! ## Contents -/

variable (m : (ℓ : Loc nD τ sig) → Buf (Elt F) ℓ)

/-- The staged operands. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def astg (c : Dev nD) : (cc0_stg2_0 : Ref sig .tc).ty.Contents (Elt F) :=
  (win0_2.blk (0 : Fin 1)).view.read (Elt F) (m ((c : Thread nD τ).loc main_arg2))
def bstg (c : Dev nD) : (cc0_stg3_0 : Ref sig .tc).ty.Contents (Elt F) :=
  (win0_3.blk (0 : Fin 1)).view.read (Elt F) (m ((c : Thread nD τ).loc main_arg3))

/-- The gathered operand, at last the same on every device: row by row what the row's device stores there. -/
def G : (cc0_scratch0 : Ref sig .tc).ty.Contents (Elt F) := fun i =>
  (mG.access (rOwnG (devOf (i 0).val (i 0).isLt)) : View sig .tc _ _ _).write (Elt F)
    (m (((devOf (i 0).val (i 0).isLt : Dev nD) : Thread nD τ).loc cc0_scratch0))
    (k0_pay1 (xstg m (devOf (i 0).val (i 0).isLt))) Finset.univ i

/-- The second operand's copy. -/
def V (c : Dev nD) : (cc0_scratch1 : Ref sig .tc).ty.Contents (Elt F) := k0_pay3 (wstg m c)

/-- The scale. -/
def scale (c : Dev nD) : F .f32 := k0_pay2 (word1 (astg m c)) (word1 (bstg m c))

/-- The result on device `c`: its own rows from one product, every other slot's from one each. -/
def Y (c : Dev nD) : (cc0_stg4_0 : Ref sig .tc).ty.Contents (Elt F) := fun i =>
  if par c (slotOf (i 0).val (i 0).isLt) = c then
    (mO.access (rOwnO c) : View sig .tc _ _ _).write (Elt F) (m ((c : Thread nD τ).loc cc0_stg4_0))
      (k0_pay4 (scale m c) ((mG.access (rOwnG c) : View sig .tc _ _ _).read (Elt F) (G m)) (V m c)) Finset.univ i
  else
    (mO.access (rOut (slotOf (i 0).val (i 0).isLt)) : View sig .tc _ _ _).write (Elt F) (m ((c : Thread nD τ).loc cc0_stg4_0))
      (k0_pay5 (scale m c) ((mG.access (rSlot (slotOf (i 0).val (i 0).isLt)) : View sig .tc _ _ _).read (Elt F) (G m)) (V m c)) Finset.univ i

/-- On a device's own rows the gathered operand is what the device stores, whatever was there before. -/
theorem G_own (c : Dev nD) (f : (cc0_scratch0 : Ref sig .tc).ty.Contents (Elt F)) :
    ∀ i ∈ gOwn c, (mG.access (rOwnG c) : View sig .tc _ _ _).write (Elt F) f (k0_pay1 (xstg m c)) Finset.univ i = G m i := by
  intro i hi
  have h := (mem_gOwn c i).mp hi
  have e : devOf (i 0).val (i 0).isLt = c := by
    refine Fin.ext ?_
    show (i 0).val / 512 = c.val
    omega
  unfold G
  rw [e]
  exact View.write_congr (fun x _ _ => rfl) (fun hn => absurd hi hn)

/-- On a device's own rows the result is what the product of those stores. -/
theorem Y_own (c : Dev nD) (f : (cc0_stg4_0 : Ref sig .tc).ty.Contents (Elt F)) :
    ∀ i ∈ oOwn c, (mO.access (rOwnO c) : View sig .tc _ _ _).write (Elt F) f
      (k0_pay4 (scale m c) ((mG.access (rOwnG c) : View sig .tc _ _ _).read (Elt F) (G m)) (V m c)) Finset.univ i = Y m c i := by
  intro i hi
  have h := hi
  rw [oOwn_eq, Finset.mem_union, mem_oSet, mem_oSet] at h
  have e : par c (slotOf (i 0).val (i 0).isLt) = c := by
    rw [par_own]
    exact h.imp (fun h => slotOf_eq _ _ _ h.1 h.2) (fun h => slotOf_eq _ _ _ h.1 h.2)
  unfold Y
  rw [if_pos e]
  exact View.write_congr (fun x _ _ => rfl) (fun hn => absurd hi hn)

/-- On another slot's rows the result is what that slot's product stores. -/
theorem Y_slot (c : Dev nD) (s : Fin 16) (hs : par c s ≠ c) (f : (cc0_stg4_0 : Ref sig .tc).ty.Contents (Elt F)) :
    ∀ i ∈ oSet s, (mO.access (rOut s) : View sig .tc _ _ _).write (Elt F) f
      (k0_pay5 (scale m c) ((mG.access (rSlot s) : View sig .tc _ _ _).read (Elt F) (G m)) (V m c)) Finset.univ i = Y m c i := by
  intro i hi
  have h := (mem_oSet s i).mp hi
  have e : slotOf (i 0).val (i 0).isLt = s := slotOf_eq _ _ _ h.1 h.2
  unfold Y
  rw [e, if_neg hs]
  exact View.write_congr (fun x _ _ => rfl) (fun hn => absurd hi hn)

/-- Copying a slot from one device to another carries its contents over. -/
theorem G_copy (s : Fin 16) (f : (cc0_scratch0 : Ref sig .tc).ty.Contents (Elt F)) :
    ∀ i ∈ gSet s, (slotM s).view.write (Elt F) f ((slotM s).view.read (Elt F) (G m)) Finset.univ i = G m i := by
  intro i hi
  rw [View.write_read_eq_piecewise]
  exact Finset.piecewise_eq_of_mem _ _ _ hi

end Cert.KProof

end
-- ==== Proof.Res.lean ====
module

public import proofs.«01_k».proof.Proof.Mem
public import Idealize.ShloMosaic.Lib.Tactic

@[expose] public section

noncomputable section

/-! # The schedule of the semaphores, and the meaning of the tokens -/

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the kernel's semaphores: the duties of a cell are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Lists of assertions -/

section Lists
variable {M : Type} [URA M] {I J : Type}

/-- The assertions of a list's members, separately. -/
def sepL (Φ : I → sProp M) (l : List I) : sProp M := bigSepM (l : Multiset I) Φ

theorem sepL_nil (Φ : I → sProp M) : sepL Φ [] = iprop(emp) := rfl
theorem sepL_cons (Φ : I → sProp M) (x : I) (l : List I) : sepL Φ (x :: l) = iprop(Φ x ∗ sepL Φ l) := bigSepM_cons x (l : Multiset I) Φ
theorem sepL_perm (Φ : I → sProp M) {l l' : List I} (h : l.Perm l') : sepL Φ l = sepL Φ l' :=
  congrArg (fun s => bigSepM s Φ) (Multiset.coe_eq_coe.mpr h)
theorem sepL_append (Φ : I → sProp M) (l l' : List I) : sepL Φ (l ++ l') = iprop(sepL Φ l ∗ sepL Φ l') := by
  unfold sepL; rw [← Multiset.coe_add, bigSepM_add]; rfl
theorem sepL_one (Φ : I → sProp M) (x : I) : sepL Φ [x] = Φ x := bigSepM_singleton x Φ
theorem sepL_map (Φ : J → sProp M) (f : I → J) (l : List I) : sepL Φ (l.map f) = sepL (fun i => Φ (f i)) l := by
  induction l with
  | nil => rfl
  | cons i l ih => rw [List.map_cons, sepL_cons, sepL_cons, ih]
theorem sepL_congr {Φ Ψ : I → sProp M} {l : List I} (h : ∀ i ∈ l, Φ i = Ψ i) : sepL Φ l = sepL Ψ l := by
  induction l with
  | nil => rfl
  | cons i l ih => rw [sepL_cons, sepL_cons, h i List.mem_cons_self, ih fun j hj => h j (List.mem_cons_of_mem _ hj)]
theorem sepL_mono {Φ Ψ : I → sProp M} {l : List I} (h : ∀ i ∈ l, Φ i ⊢ Ψ i) : sepL Φ l ⊢ sepL Ψ l := by
  induction l with
  | nil => exact .rfl
  | cons i l ih =>
    rw [sepL_cons, sepL_cons]
    exact BIClass.sep_mono (h i List.mem_cons_self) (ih fun j hj => h j (List.mem_cons_of_mem _ hj))
theorem sepL_flatMap (Φ : J → sProp M) (f : I → List J) (l : List I) : sepL Φ (l.flatMap f) = sepL (fun i => sepL Φ (f i)) l := by
  induction l with
  | nil => rfl
  | cons i l ih => rw [List.flatMap_cons, sepL_append, sepL_cons, ih]
theorem sep_swap (A B C D : sProp M) : iprop((A ∗ B) ∗ C ∗ D) ⊢ iprop((A ∗ C) ∗ B ∗ D) := by
  iintro ⟨⟨Ha, Hb⟩, Hc, Hd⟩
  isplitl [Ha Hc]
  · isplitl [Ha] <;> iassumption
  · isplitl [Hb] <;> iassumption
theorem sepL_sep (Φ Ψ : I → sProp M) (l : List I) : sepL (fun i => iprop(Φ i ∗ Ψ i)) l = iprop(sepL Φ l ∗ sepL Ψ l) := by
  induction l with
  | nil => exact (equiv_iff.mp emp_sep).symm
  | cons i l ih =>
    rw [sepL_cons, sepL_cons, sepL_cons, ih]
    exact equiv_iff.mp ⟨sep_swap _ _ _ _, sep_swap _ _ _ _⟩
theorem sepL_filter (Φ : I → sProp M) (p : I → Bool) (l : List I) :
    sepL Φ (l.filter p) = sepL (fun i => if p i then Φ i else iprop(emp)) l := by
  induction l with
  | nil => rfl
  | cons i l ih =>
    rw [List.filter_cons, sepL_cons]
    by_cases h : p i = true
    · rw [if_pos h, if_pos h, sepL_cons, ih]
    · rw [if_neg h, if_neg h, ih]; exact (equiv_iff.mp emp_sep).symm
/-- Over a whole type, as a list without repetitions. -/
theorem sepL_univ [Fintype I] [DecidableEq I] (Φ : I → sProp M) (l : List I) (h : ∀ i, i ∈ l) (hl : l.Nodup) :
    bigSep Finset.univ Φ = sepL Φ l := by
  have e : (Finset.univ : Finset I).val = (l : Multiset I) := by
    have : (Finset.univ : Finset I) = ⟨(l : Multiset I), Multiset.coe_nodup.mpr hl⟩ := by
      ext i; simp [h]
    rw [this]
  unfold sepL; rw [← e]; rfl
theorem sepL_finset [DecidableEq I] (Φ : I → sProp M) (s : Finset I) (l : List I) (h : s = l.toFinset) (hl : l.Nodup) :
    bigSep s Φ = sepL Φ l := by
  have e : s.val = (l : Multiset I) := by
    have : s = ⟨(l : Multiset I), Multiset.coe_nodup.mpr hl⟩ := by
      ext i; simp [h]
    rw [this]
  unfold sepL; rw [← e]; rfl
end Lists

instance sepL_storable {I : Type} (Φ : I → sProp 𝕄) [h : ∀ i, BI.Storable (upEmb : UEmb _ 𝕄) (Φ i)] (l : List I) :
    BI.Storable (upEmb : UEmb _ 𝕄) (sepL Φ l) := by
  induction l with
  | nil => rw [sepL_nil]; infer_instance
  | cons i l ih => rw [sepL_cons]; infer_instance

/-! ## The cells -/

/-- The semaphore of a name. -/
def csem : CI → SemLoc sig
  | .inl x => .dma (sendS x.1 x.2)
  | .inr (.inl s) => .dma (recvS s)
  | .inr (.inr _) => .reg barS

theorem csem_inj : Function.Injective csem := by
  intro a b; revert a b; decide +kernel

/-- A device's cell of a name. -/
abbrev kcell (x : Dev nD × CI) : GSem nD τ sig := ((x.1 : Thread nD τ), csem x.2)
abbrev barCell (c : Dev nD) : GSem nD τ sig := ((c : Thread nD τ), .reg barS)
abbrev sendCell (c : Dev nD) (s : Fin 16) (k : Fin 3) : GSem nD τ sig := ((c : Thread nD τ), .dma (sendS s k))
abbrev recvCell (c : Dev nD) (s : Fin 16) : GSem nD τ sig := ((c : Thread nD τ), .dma (recvS s))

theorem kcell_inj : Function.Injective kcell := by
  intro a b h
  have h1 : (a.1 : Thread nD τ) = (b.1 : Thread nD τ) := (Prod.mk.inj h).1
  exact Prod.ext (Prod.mk.inj h1).1 (csem_inj (Prod.mk.inj h).2)

open Classical in
/-- The name of a semaphore, if it is the kernel's. -/
def dec (q : SemLoc sig) : Option CI := if h : ∃ i, csem i = q then some h.choose else none

theorem dec_csem (i : CI) : dec (csem i) = some i := by
  have h : ∃ j, csem j = csem i := ⟨i, rfl⟩
  unfold dec
  rw [dif_pos h]
  exact congrArg some (csem_inj h.choose_spec)

/-- The credit of a slot's transfer. -/
abbrev N : ℕ := (slotM 0).view.dmaCredit
theorem N_pos : 0 < N := View.dmaCredit_pos _ (by decide)

variable (m : (ℓ : Loc nD τ sig) → Buf (Elt F) ℓ)

/-- The rows of slot `s` of the gathered operand on device `c`. -/
def slotPts (c : Dev nD) (s : Fin 16) (q : PosShare TreeShare) (f : (cc0_scratch0 : Ref sig .tc).ty.Contents (Elt F)) : sProp 𝕄 :=
  (slotM s).view.loc (c : Thread nD τ) ↦[(slotM s).view.set]{q} f

/-- The same rows for writing, whatever they hold. -/
def slotAny (c : Dev nD) (s : Fin 16) : sProp 𝕄 := iprop(∃ f, slotPts (F := F) c s fullShare f)

/-- The four quarters of the right to a slot. -/
def qtr : Fin 4 → PosShare TreeShare :=
  ![fullShare.left.left, fullShare.left.right, fullShare.right.left, fullShare.right.right]

instance slotPts_storable (c : Dev nD) (s) (q) (f) : BI.Storable (upEmb : UEmb _ 𝕄) (slotPts (F := F) c s q f) := by
  unfold slotPts; infer_instance
instance slotAny_storable (c : Dev nD) (s) : BI.Storable (upEmb : UEmb _ 𝕄) (slotAny (F := F) c s) := by
  unfold slotAny; infer_instance

/-- The rows on a child that a send of device `c` writes. -/
def dstPts (c : Dev nD) (x : Fin 16 × Fin 3) : sProp 𝕄 := slotAny (F := F) (child c x.1 x.2 : Dev nD) x.1

instance dstPts_storable (c : Dev nD) (x) : BI.Storable (upEmb : UEmb _ 𝕄) (dstPts (F := F) c x) := by
  unfold dstPts; infer_instance

/-! ## The schedule -/

/-- Who has to raise a cell. -/
def dut (c : Dev nD) : CI → Finset (Dev nD)
  | .inl x => if child c x.1 x.2 = c then ∅ else {0}
  | .inr (.inl s) => if par c s = c then ∅ else {0}
  | .inr (.inr _) => (nbrs c).toFinset

/-- By how much. -/
def amt : CI → ℕ
  | .inr (.inr _) => 1
  | _ => N

/-- What the waiting device gets by it: of a neighbour's signal, the rows there that it will send to; of an arrival, the
    slot; of a completed send, the part of the right to the slot that was lent to it. -/
def pay (c : Dev nD) (i : CI) (d : Dev nD) : sProp 𝕄 :=
  match i with
  | .inl x => slotPts c x.1 (qtr x.2.succ) (G m)
  | .inr (.inl s) => slotPts c s fullShare (G m)
  | .inr (.inr _) => sepL (dstPts c) (outs c d)

instance pay_storable (c : Dev nD) (i : CI) (d : Dev nD) : BI.Storable (upEmb : UEmb _ 𝕄) (pay m c i d) := by
  unfold pay; (repeat' split) <;> infer_instance

def Rd : Rounds.Schedule (GSem nD τ sig) (Dev nD) 𝕄 where
  duties g r := if r = 0 ∧ g.1.2 = .tc then (match dec g.2 with | some i => dut g.1.1 i | none => ∅) else ∅
  unitless _ := False
  amount g _ _ := match dec g.2 with | some i => amt i | none => 1
  payload g _ d := match dec g.2 with | some i => pay m g.1.1 i d | none => iprop(emp)
  amount_pos g _ _ _ := by
    split
    · rename_i i _
      unfold amt; split
      · exact Nat.one_pos
      · exact N_pos
    · exact Nat.one_pos

instance Rd_storable (g : GSem nD τ sig) (r : ℕ) (d : Dev nD) :
    BI.Storable (upEmb : UEmb _ 𝕄) ((Rd (F := F) m).payload g r d) := by
  show BI.Storable upEmb (match dec g.2 with | some i => pay m g.1.1 i d | none => iprop(emp))
  split <;> infer_instance

theorem duties_cell (c : Dev nD) (i : CI) : (Rd (F := F) m).duties (kcell (c, i)) 0 = dut c i := by
  dsimp only [Rd]; rw [if_pos ⟨rfl, rfl⟩, dec_csem]
theorem duties_later (g : GSem nD τ sig) : ∀ r, 1 ≤ r → (Rd (F := F) m).duties g r = ∅ :=
  fun r hr => by dsimp only [Rd]; rw [if_neg fun h => by omega]
theorem amount_cell (c : Dev nD) (i : CI) (d : Dev nD) : (Rd (F := F) m).amount (kcell (c, i)) 0 d = amt i := by
  dsimp only [Rd]; rw [dec_csem]
theorem payload_cell (c : Dev nD) (i : CI) (d : Dev nD) : (Rd (F := F) m).payload (kcell (c, i)) 0 d = pay m c i d := by
  dsimp only [Rd]; rw [dec_csem]

theorem nbrs_nodup (c : Fin 8) : (nbrs c).Nodup := by revert c; decide
theorem nbrs_length (c : Fin 8) : (nbrs c).length = 3 := by revert c; decide
theorem nbrs_symm (c d : Fin 8) : d ∈ nbrs c → c ∈ nbrs d := by revert c d; decide

theorem expect_bar (c : Dev nD) : (Rd (F := F) m).expect (kcell (c, CI.bar)) 0 = 3 := by
  unfold Schedule.expect Schedule.amountOf
  rw [duties_cell, Finset.sum_congr rfl fun d _ => amount_cell m c CI.bar d]
  show ∑ x ∈ (nbrs c).toFinset, 1 = 3
  rw [Finset.sum_const, List.toFinset_card_of_nodup (nbrs_nodup c), nbrs_length]
  rfl
theorem expect_recv (c : Dev nD) (s : Fin 16) (h : par c s ≠ c) : (Rd (F := F) m).expect (kcell (c, CI.recv s)) 0 = N := by
  unfold Schedule.expect Schedule.amountOf
  rw [duties_cell, Finset.sum_congr rfl fun d _ => amount_cell m c (CI.recv s) d]
  show ∑ x ∈ (if par c s = c then ∅ else {0}), N = N
  rw [if_neg h, Finset.sum_singleton]
theorem expect_send (c : Dev nD) (s : Fin 16) (k : Fin 3) (h : child c s k ≠ c) : (Rd (F := F) m).expect (kcell (c, CI.send s k)) 0 = N := by
  unfold Schedule.expect Schedule.amountOf
  rw [duties_cell, Finset.sum_congr rfl fun d _ => amount_cell m c (CI.send s k) d]
  show ∑ x ∈ (if child c s k = c then ∅ else {0}), N = N
  rw [if_neg h, Finset.sum_singleton]

/-- All that a round of a cell brings. -/
theorem rest_bar (c : Dev nD) : bigSep ((Rd (F := F) m).duties (barCell c) 0 \ ∅) (fun d => (Rd (F := F) m).payload (barCell c) 0 d)
    = sepL (fun d => sepL (dstPts c) (outs c d)) (nbrs c) := by
  show bigSep ((Rd (F := F) m).duties (kcell (c, CI.bar)) 0 \ ∅) (fun d => (Rd (F := F) m).payload (kcell (c, CI.bar)) 0 d) = _
  rw [Finset.sdiff_empty, duties_cell, bigSep_congr fun d _ => payload_cell m c CI.bar d]
  exact sepL_finset _ _ _ rfl (nbrs_nodup c)
theorem rest_recv (c : Dev nD) (s : Fin 16) (h : par c s ≠ c) :
    bigSep ((Rd (F := F) m).duties (recvCell c s) 0 \ ∅) (fun d => (Rd (F := F) m).payload (recvCell c s) 0 d)
      = slotPts c s fullShare (G m) := by
  show bigSep ((Rd (F := F) m).duties (kcell (c, CI.recv s)) 0 \ ∅) (fun d => (Rd (F := F) m).payload (kcell (c, CI.recv s)) 0 d) = _
  rw [Finset.sdiff_empty, duties_cell, bigSep_congr fun d _ => payload_cell m c (CI.recv s) d]
  show bigSep (if par c s = c then ∅ else {0}) _ = _
  rw [if_neg h, bigSep_singleton]; rfl
theorem rest_send (c : Dev nD) (s : Fin 16) (k : Fin 3) (h : child c s k ≠ c) :
    bigSep ((Rd (F := F) m).duties (sendCell c s k) 0 \ ∅) (fun d => (Rd (F := F) m).payload (sendCell c s k) 0 d)
      = slotPts c s (qtr k.succ) (G m) := by
  show bigSep ((Rd (F := F) m).duties (kcell (c, CI.send s k)) 0 \ ∅) (fun d => (Rd (F := F) m).payload (kcell (c, CI.send s k)) 0 d) = _
  rw [Finset.sdiff_empty, duties_cell, bigSep_congr fun d _ => payload_cell m c (CI.send s k) d]
  show bigSep (if child c s k = c then ∅ else {0}) _ = _
  rw [if_neg h, bigSep_singleton]; rfl

/-! ## What is owed, and the order of the waits -/

/-- What a token owes. -/
def debtTok (c : Dev nD) (t : Tok) : CellTallies nD τ sig Unit :=
  match target c t with
  | some g => tallyAt (kcell g) () (amt g.2)
  | none => 0

/-- What a list of tokens owes. -/
def debt (c : Dev nD) (X : List Tok) : CellTallies nD τ sig Unit := (X.map (debtTok c)).sum

theorem debt_nil (c : Dev nD) : debt c [] = 0 := rfl
theorem debt_cons (c : Dev nD) (t : Tok) (X : List Tok) : debt c (t :: X) = debtTok c t + debt c X := by
  unfold debt; rw [List.map_cons, List.sum_cons]
theorem debt_append (c : Dev nD) (X Y : List Tok) : debt c (X ++ Y) = debt c X + debt c Y := by
  unfold debt; rw [List.map_append, List.sum_append]
theorem debt_perm (c : Dev nD) {X Y : List Tok} (h : X.Perm Y) : debt c X = debt c Y :=
  (h.map _).sum_eq
theorem debt_zero (c : Dev nD) (X : List Tok) (h : ∀ t ∈ X, target c t = none) : debt c X = 0 := by
  induction X with
  | nil => rfl
  | cons t X ih =>
    rw [debt_cons, ih fun t ht => h t (List.mem_cons_of_mem _ ht), add_zero]
    unfold debtTok
    rw [h t List.mem_cons_self]

theorem debt_pos (c : Dev nD) (X : List Tok) {g : GSem nD τ sig} {u : Unit} (h : 0 < debt c X g u) :
    ∃ t ∈ X, ∃ g', target c t = some g' ∧ g = kcell g' := by
  induction X with
  | nil => exact absurd h (Nat.lt_irrefl 0)
  | cons t X ih =>
    rw [debt_cons, Pi.add_apply, Finsupp.add_apply] at h
    rcases Nat.eq_zero_or_pos (debt c X g u) with h0 | h0
    · rw [h0, Nat.add_zero] at h
      refine ⟨t, List.mem_cons_self, ?_⟩
      rcases hx : target c t with _ | g'
      · have e : debtTok c t = 0 := by unfold debtTok; rw [hx]
        rw [e] at h
        exact absurd h (Nat.lt_irrefl 0)
      · have e : debtTok c t = tallyAt (kcell g') () (amt g'.2) := by unfold debtTok; rw [hx]
        rw [e, tallyAt_apply] at h
        by_cases hh : g = kcell g' ∧ u = ()
        · exact ⟨g', rfl, hh.1⟩
        · rw [if_neg hh] at h; exact absurd h (Nat.lt_irrefl 0)
    · obtain ⟨t', ht', r⟩ := ih h0
      exact ⟨t', List.mem_cons_of_mem _ ht', r⟩

def L (g : GSem nD τ sig) : Finset Unit := if g.1.2 = .tc then {()} else ∅
def lv (g : GSem nD τ sig) (_ : Unit) : ℕ := match dec g.2 with | some i => lvl (g.1.1, i) | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (x : Dev nD × CI) (u : Unit) : lv (kcell x) u = lvl x := by
  dsimp only [lv]; rw [dec_csem]

/-- A device may wait for a cell while all it owes is to cells that come later. -/
theorem mayWait_above (c : Dev nD) (g : Fin 8 × CI) (hg : g.1 = c) (X : List Tok) (h : above c g X = true) :
    (levAts L lv : sProp 𝕄) ⊢ MayWait (c : Thread nD τ) (csem g.2) () (debt c X) := by
  subst hg
  refine MayOwe.of_cut (L := L) (lev := lv) (lvl g)
    (fun p hp => by rw [Finset.mem_singleton.mp hp, L_tc]; exact Finset.mem_singleton_self _)
    (fun g' u hg' => ?_) (fun p hp => ?_) (fun g' u hg' => ?_)
  · obtain ⟨t, _, x, _, rfl⟩ := debt_pos _ X hg'
    rw [L_tc]; exact Finset.mem_singleton_self _
  · rw [Finset.mem_singleton.mp hp]
    exact (lv_cell g ()).le
  · obtain ⟨t, ht, x, hx, rfl⟩ := debt_pos _ X hg'
    rw [lv_cell]
    have := List.all_eq_true.mp h t ht
    rw [hx] at this
    exact of_decide_eq_true this

/-- Before the staging semaphores a device may always wait: all that is owed is to cells above. -/
theorem mayWait_stage (c : Dev nD) (q : SemLoc sig) (hq : dec q = none) (X : List Tok) :
    (levAts L lv : sProp 𝕄) ⊢ MayWait (c : Thread nD τ) q () (debt c X) := by
  refine MayOwe.of_cut (L := L) (lev := lv) 0
    (fun p hp => by rw [Finset.mem_singleton.mp hp, L_tc]; exact Finset.mem_singleton_self _)
    (fun g' u hg' => ?_) (fun p hp => ?_) (fun g' u hg' => ?_)
  · obtain ⟨t, _, x, _, rfl⟩ := debt_pos _ X hg'
    rw [L_tc]; exact Finset.mem_singleton_self _
  · rw [Finset.mem_singleton.mp hp]
    dsimp only [lv]; rw [hq]
  · obtain ⟨t, ht, x, hx, rfl⟩ := debt_pos _ X hg'
    rw [lv_cell]
    cases t <;> simp only [target, reduceCtorEq, Option.some.injEq] at hx
    · rw [← hx]; exact Nat.one_pos
    · rw [← hx]; show 0 < 1 + _; omega

/-! ## The tokens -/

/-- A cell with no round to come. -/
def done (g : GSem nD τ sig) : sProp 𝕄 := iprop(∃ R, ⌜∀ r, R ≤ r → (Rd (F := F) m).duties g r = ∅⌝ ∗ atPos ER g R ∅ 0)

/-- The result's rows of slot `s`. -/
def outPts (c : Dev nD) (s : Fin 16) (f : (cc0_stg4_0 : Ref sig .tc).ty.Contents (Elt F)) : sProp 𝕄 :=
  ((c : Thread nD τ).loc cc0_stg4_0) ↦[oSet s]{fullShare} f

/-- What a token stands for on device `c`. -/
def tokI (c : Dev nD) : Tok → sProp 𝕄
  | .sg d => iprop(dutyTok ER (barCell d) 0 c ∗ sepL (dstPts (d : Dev nD)) (outs d c))
  | .bw => iprop(atPos ER (barCell c) 0 ∅ 0 ∗ cred (tallyAt (barCell c) () 3))
  | .bd => done m (barCell c)
  | .dst s k => dstPts c (s, k)
  | .st s k => iprop(dutyTok ER (sendCell c s k) 0 0 ∗ dutyTok ER (recvCell (child c s k) s) 0 0 ∗ atPos ER (sendCell c s k) 0 ∅ 0)
  | .fl s k => iprop(atPos ER (sendCell c s k) 0 ∅ 0 ∗ cred (tallyAt (sendCell c s k) () N))
  | .sd s k => done m (sendCell c s k)
  | .rt s => iprop(atPos ER (recvCell c s) 0 ∅ 0 ∗ cred (tallyAt (recvCell c s) () N))
  | .rd s => done m (recvCell c s)
  | .hold s q => slotPts c s (qtr q) (G m)
  | .raw => iprop(∃ f, ((c : Thread nD τ).loc cc0_scratch0) ↦[gOwn c]{fullShare} f)
  | .xw => ((c : Thread nD τ).loc cc0_stg0_0) ↦{fullShare} xstg m c
  | .ww => ((c : Thread nD τ).loc cc0_stg1_0) ↦{fullShare} wstg m c
  | .w8t => iprop(∃ f, ((c : Thread nD τ).loc cc0_scratch1) ↦{fullShare} f)
  | .w8d => ((c : Thread nD τ).loc cc0_scratch1) ↦{fullShare} V m c
  | .mt s => iprop(∃ f, outPts (F := F) c s f)
  | .md s => outPts c s (Y m c)

/-- What all devices know: the cells' invariants under the names `K`, that each cell is at its round 0, the levels. -/
def recs (K : Dev nD × CI → ℕ) : sProp 𝕄 :=
  iprop((bigSep Finset.univ fun x => iprop(cellInv ER (Rd m) (K x) (kcell x) ∗ reached ER (kcell x) 0)) ∗ levAts L lv)

instance recs_persistent (K : Dev nD × CI → ℕ) : BI.Persistent (recs m K) := by unfold recs; infer_instance

theorem recs_cell (K : Dev nD × CI → ℕ) (x : Dev nD × CI) :
    recs m K ⊢ iprop(cellInv ER (Rd m) (K x) (kcell x) ∗ reached ER (kcell x) 0) := by
  have e : (bigSep Finset.univ fun x => iprop(cellInv ER (Rd m) (K x) (kcell x) ∗ reached ER (kcell x) 0))
      ⊢ iprop(cellInv ER (Rd m) (K x) (kcell x) ∗ reached ER (kcell x) 0) :=
    bigSep_elim (Finset.mem_univ x) (Φ := fun x => iprop(cellInv ER (Rd m) (K x) (kcell x) ∗ reached ER (kcell x) 0))
  unfold recs
  iintro ⟨H, -⟩
  iapply e $$ H

theorem recs_lev (K : Dev nD × CI → ℕ) : recs m K ⊢ (levAts L lv : sProp 𝕄) := by
  unfold recs
  iintro ⟨-, H⟩
  iexact H

/-- A device's state: its tokens, what they owe. -/
def Inv (c : Dev nD) (X : List Tok) : sProp 𝕄 :=
  iprop(sepL (tokI m c) X ∗ ∃ W, owes (c : Thread nD τ) (debt c X) W)

end Cert.KProof

end
-- ==== Proof.Acts.lean ====
module

public import proofs.«01_k».proof.Proof.Res

@[expose] public section

noncomputable section

/-! # What the actions do to the tokens -/

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × CI → ℕ)

/-- What the run of a program on device `c` may assume and has to reach. -/
abbrev runs {α : Type} (c : Dev nD) (p : P (F := F) α) (Q : α → sProp 𝕄) : sProp 𝕄 :=
  wp frame (wpE (defs₀ (F := F)) 𝒱₀ (c : Thread nD τ) none) Set.univ p Q

/-- The action takes its tokens and leaves others; what it owes beyond them, `O`, stays. -/
def Sound (c : Dev nD) (a : Act) (O : CellTallies nD τ sig Unit) : Prop :=
  ∀ {α : Type} (k : P (F := F) α) (Q : α → sProp 𝕄),
    iprop(recs m K ∗ sepL (tokI m c) (pre c a) ∗ ∃ W, owes (c : Thread nD τ) (O + debt c (pre c a)) W)
      ⊢ iprop(((sepL (tokI m c) (post c a) ∗ ∃ W, owes (c : Thread nD τ) O W) -∗ runs c k Q) -∗ runs c (a.run c (scale m c) k) Q)

theorem debt_one (c : Dev nD) (t : Tok) : debt c [t] = debtTok c t := by rw [debt_cons, debt_nil, add_zero]

theorem sound_sig (c : Dev nD) (d : Fin 8) (hd : d ∈ nbrs c) (O : CellTallies nD τ sig Unit) : Sound m K c (.sig d) O := by
  intro α k Q
  unfold Act.run pre post
  rw [sepL_one, sepL_nil, debt_one]
  dsimp only [tokI]
  iintro ⟨#HR, ⟨Ht, Hd⟩, ⟨%W, HO⟩⟩ Hk
  ihave #HC := (recs_cell m K ((d : Dev nD), CI.bar)) $$ HR
  icases HC with ⟨#HI, #Hr⟩
  iapply (Rounds.wp_signal 𝒱₀ ER (Rd m) (c : Thread nD τ) none (dst := ((d : Dev nD) : Thread nD τ)) (κ := K (d, CI.bar)) (d := c)
      (by show c ∈ (Rd m).duties (kcell (d, CI.bar)) 0; rw [duties_cell]; exact List.mem_toFinset.mpr (nbrs_symm c d hd))
      ((amount_cell m d CI.bar c).trans (by decide)) () O rfl) $$ [HO Ht Hd]
  · isplitr; · iexact HI
    isplitl [HO]; · iexact HO
    isplitl [Ht]; · iexact Ht
    isplitl [Hd]; · rw [show (Rd m).payload (((d : Dev nD) : Thread nD τ), .reg barS) 0 c = sepL (dstPts (d : Dev nD)) (outs d c) from payload_cell m d CI.bar c]; iexact Hd
    iexact Hr
  iintro HO
  iapply Hk
  isplitr; · iempintro
  iexists W; iexact HO

theorem sound_barwait (c : Dev nD) (O : CellTallies nD τ sig Unit)
    (hO : (levAts L lv : sProp 𝕄) ⊢ MayWait (c : Thread nD τ) (csem CI.bar) () O) : Sound m K c .barwait O := by
  intro α k Q
  unfold Act.run pre post
  rw [sepL_one, sepL_cons, debt_one]
  dsimp only [tokI]
  iintro ⟨#HR, ⟨Hat, Hc⟩, ⟨%W, HO⟩⟩ Hk
  ihave #HC := (recs_cell m K (c, CI.bar)) $$ HR
  icases HC with ⟨#HI, -⟩
  ihave #HL := (recs_lev m K) $$ HR
  rw [show debtTok c .bw = 0 from rfl, add_zero]
  iapply (Rounds.wp_wait_rest_token 𝒱₀ ER (Rd m) (c : Thread nD τ) none (κ := K (c, CI.bar))
      (wpE_semWait_eq 𝒱₀ (c : Thread nD τ) none Set.univ) (Set.mem_univ _) () (O := O) (W := W) (R := 0) (m := 0) (T := ∅)
      (by rw [show (Rd m).expect ((c : Thread nD τ), .reg barS) 0 = 3 from expect_bar m c]; decide)) $$ [Hat Hc HO]
  · isplitr; · iexact HI
    isplitl [Hc]; · iexact Hc
    isplitl [HO]; · iexact HO
    isplitr; · iapply hO; iexact HL
    iexact Hat
  iintro ⟨HO, Hat, -, Hpay⟩
  ihave Hp := (Entails.of_eq (rest_bar m c)) $$ Hpay
  iapply Hk
  isplitl [Hat Hp]
  · isplitl [Hat]
    · unfold done
      iexists (0 + 1)
      isplitr; · ipureintro; exact duties_later m _
      iexact Hat
    · unfold dsts
      rw [sepL_flatMap]
      simp only [sepL_map]
      iexact Hp
  · iexists (insert (SemLoc.reg barS, ()) W); iexact HO

/-- A slot's right and its four quarters. -/
theorem slot_quarters (c : Dev nD) (s : Fin 16) :
    slotPts c s fullShare (G m) ⊣⊢ sepL (tokI m c) (quarters s) := by
  unfold quarters
  rw [sepL_cons, sepL_cons, sepL_cons, sepL_one]
  show slotPts c s fullShare (G m) ⊣⊢ iprop(slotPts c s fullShare.left.left (G m) ∗ slotPts c s fullShare.left.right (G m)
    ∗ slotPts c s fullShare.right.left (G m) ∗ slotPts c s fullShare.right.right (G m))
  have h : ∀ q : PosShare TreeShare, slotPts c s q (G m) = iprop(slotPts c s q.left (G m) ∗ slotPts c s q.right (G m)) := fun q =>
    equiv_iff.mp ⟨(pointsTo_share (PosShare.mem_left_op_right q)).1, (pointsTo_share (PosShare.mem_left_op_right q)).2⟩
  rw [h fullShare, h fullShare.left, h fullShare.right]
  exact ⟨sep_assoc.1, sep_assoc.2⟩

theorem sound_recv (c : Dev nD) (s : Fin 16) (hs : par c s ≠ c) (O : CellTallies nD τ sig Unit)
    (hO : (levAts L lv : sProp 𝕄) ⊢ MayWait (c : Thread nD τ) (csem (CI.recv s)) () O) : Sound m K c (.recv s) O := by
  intro α k Q
  unfold Act.run pre post
  rw [sepL_one, sepL_cons, debt_one]
  dsimp only [tokI]
  iintro ⟨#HR, ⟨Hat, Hc⟩, ⟨%W, HO⟩⟩ Hk
  ihave #HC := (recs_cell m K (c, CI.recv s)) $$ HR
  icases HC with ⟨#HI, -⟩
  ihave #HL := (recs_lev m K) $$ HR
  rw [show debtTok c (.rt s) = 0 from rfl, add_zero]
  iapply (Rounds.wp_wait_rest_token 𝒱₀ ER (Rd m) (c : Thread nD τ) none (κ := K (c, CI.recv s))
      (wpE_waitDma2_eq 𝒱₀ (c : Thread nD τ) none Set.univ) (Set.mem_univ _) () (O := O) (W := W) (R := 0) (m := 0) (T := ∅)
      (by exact (Nat.zero_add _).trans (expect_recv m c s hs).symm)) $$ [Hat Hc HO]
  · isplitr; · iexact HI
    isplitl [Hc]; · iexact Hc
    isplitl [HO]; · iexact HO
    isplitr; · iapply hO; iexact HL
    iexact Hat
  iintro ⟨HO, Hat, -, Hpay⟩
  ihave Hp := (Entails.of_eq (rest_recv m c s hs)) $$ Hpay
  iapply Hk
  isplitl [Hat Hp]
  · isplitl [Hat]
    · unfold done
      iexists (0 + 1)
      isplitr; · ipureintro; exact duties_later m _
      iexact Hat
    · iapply (slot_quarters m c s).1; iexact Hp
  · iexists (insert (SemLoc.dma (recvS s), ()) W); iexact HO

theorem sound_fin (c : Dev nD) (s : Fin 16) (j : Fin 3) (hs : child c s j ≠ c) (O : CellTallies nD τ sig Unit)
    (hO : (levAts L lv : sProp 𝕄) ⊢ MayWait (c : Thread nD τ) (csem (CI.send s j)) () O) : Sound m K c (.fin s j) O := by
  intro α k Q
  unfold Act.run pre post
  rw [sepL_one, sepL_cons, sepL_one, debt_one]
  dsimp only [tokI]
  iintro ⟨#HR, ⟨Hat, Hc⟩, ⟨%W, HO⟩⟩ Hk
  ihave #HC := (recs_cell m K (c, CI.send s j)) $$ HR
  icases HC with ⟨#HI, -⟩
  ihave #HL := (recs_lev m K) $$ HR
  rw [show debtTok c (.fl s j) = 0 from rfl, add_zero]
  iapply (Rounds.wp_wait_rest_token 𝒱₀ ER (Rd m) (c : Thread nD τ) none (κ := K (c, CI.send s j))
      (wpE_waitDma2_eq 𝒱₀ (c : Thread nD τ) none Set.univ) (Set.mem_univ _) () (O := O) (W := W) (R := 0) (m := 0) (T := ∅)
      (by exact (Nat.zero_add _).trans (expect_send m c s j hs).symm)) $$ [Hat Hc HO]
  · isplitr; · iexact HI
    isplitl [Hc]; · iexact Hc
    isplitl [HO]; · iexact HO
    isplitr; · iapply hO; iexact HL
    iexact Hat
  iintro ⟨HO, Hat, -, Hpay⟩
  ihave Hp := (Entails.of_eq (rest_send m c s j hs)) $$ Hpay
  iapply Hk
  isplitl [Hat Hp]
  · isplitl [Hat]
    · unfold done
      iexists (0 + 1)
      isplitr; · ipureintro; exact duties_later m _
      iexact Hat
    · iexact Hp
  · iexists (insert (SemLoc.dma (sendS s j), ()) W); iexact HO

theorem sound_send (c : Dev nD) (s : Fin 16) (j : Fin 3) (d : Fin 8) (hd : child c s j = d) (hne : d ≠ c)
    (hp : par d s = c) (O : CellTallies nD τ sig Unit) : Sound m K c (.send s j d) O := by
  intro α k Q
  subst hd
  unfold Act.run pre post
  rw [sepL_cons, sepL_cons, sepL_one, sepL_one]
  rw [show debt c [.st s j, .dst s j, .hold s j.succ] = tallyAt (recvCell (child c s j) s) () N from by
    rw [debt_cons, debt_cons, debt_one]; show _ + (0 + 0) = _; rw [add_zero, add_zero]; rfl]
  dsimp only [tokI, dstPts, slotAny, slotPts]
  iintro ⟨#HR, ⟨⟨Ht₁, Ht₂, Hat⟩, ⟨%fd, Hd⟩, Hs⟩, ⟨%W, HO⟩⟩ Hk
  ihave #HC := (recs_cell m K (c, CI.send s j)) $$ HR
  icases HC with ⟨#HI₁, #Hr₁⟩
  ihave #HC := (recs_cell m K ((child c s j : Dev nD), CI.recv s)) $$ HR
  icases HC with ⟨#HI₂, #Hr₂⟩
  iapply (Rounds.wp_send_pointsTo 𝒱₀ ER (Rd m) (c : Thread nD τ) none (c' := ((child c s j : Dev nD) : Thread nD τ))
      (κ₁ := K (c, CI.send s j)) (κ₂ := K (child c s j, CI.recv s)) (src := slotM s) (dst := slotM s) (sS := .dma (sendS s j)) (sem := .dma (recvS s))
      (r₁ := 0) (r₂ := 0) (d₁ := (0 : Dev nD)) (d₂ := (0 : Dev nD)) (fs := G m) (fd := fd) (q := qtr j.succ)
      (by show (0 : Dev nD) ∈ (Rd m).duties (kcell (c, CI.send s j)) 0
          rw [duties_cell]; show _ ∈ (if child c s j = c then ∅ else {0}); rw [if_neg hne]; exact Finset.mem_singleton_self _)
      (by show (0 : Dev nD) ∈ (Rd m).duties (kcell (child c s j, CI.recv s)) 0
          rw [duties_cell]; show _ ∈ (if par (child c s j) s = child c s j then ∅ else {0}); rw [hp, if_neg (fun h => hne h.symm)]; exact Finset.mem_singleton_self _)
      () () N rfl (amount_cell m c (CI.send s j) 0) (amount_cell m (child c s j) (CI.recv s) 0) O rfl (W := W)
      (by rw [show (Rd m).payload ((c : Thread nD τ), .dma (sendS s j)) 0 0 = pay m c (CI.send s j) 0 from payload_cell m c (CI.send s j) 0]
          exact BI.Entails.refl _)
      (by rw [show (Rd m).payload (((child c s j : Dev nD) : Thread nD τ), .dma (recvS s)) 0 0 = pay m (child c s j) (CI.recv s) 0 from payload_cell m (child c s j) (CI.recv s) 0]
          exact Entails.of_eq (pointsTo_congr (G_copy m s fd)))) $$ [Ht₁ Ht₂ Hd Hs HO]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hat Hc]
  · isplitl [Hat]; · iexact Hat
    iexact Hc
  · iexists W; iexact HO

end Cert.KProof

end
-- ==== Proof.Acts2.lean ====
module

public import proofs.«01_k».proof.Proof.Acts

@[expose] public section

noncomputable section

/-! # What the loads and stores do to the tokens -/

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem zero2 : (![0, 0] : Fin 2 → ℕ) = fun _ => 0 := funext fun a => by fin_cases a <;> rfl

theorem read_xw (f : (cc0_stg0_0 : Ref sig .tc).ty.Contents (Elt F)) : mX.view.readAt (Elt F) rX.toLoadRect f = f :=
  Memref.readAt_unit_zero (Elt F) cc0_stg0_0 zero2 _ f
theorem read_ww (f : (cc0_stg1_0 : Ref sig .tc).ty.Contents (Elt F)) : mW.view.readAt (Elt F) rW.toLoadRect f = f :=
  Memref.readAt_unit_zero (Elt F) cc0_stg1_0 zero2 _ f
theorem read_w8 (f : (cc0_scratch1 : Ref sig .tc).ty.Contents (Elt F)) : mV.view.readAt (Elt F) rW.toLoadRect f = f :=
  Memref.readAt_unit_zero (Elt F) cc0_scratch1 zero2 _ f
theorem write_w8 (f w : (cc0_scratch1 : Ref sig .tc).ty.Contents (Elt F)) :
    (mV.access rW : View sig .tc _ _ _).write (Elt F) f w Finset.univ = w :=
  Memref.write_access_unit_zero_univ (Elt F) cc0_scratch1 zero2 _ f w

/-- A device's own rows of the gathered operand, at any share, are its two slots. -/
theorem own_slots (c : Dev nD) (q : PosShare TreeShare) (f : (cc0_scratch0 : Ref sig .tc).ty.Contents (Elt F)) :
    (((c : Thread nD τ).loc cc0_scratch0) ↦[gOwn c]{q} f : sProp 𝕄) = iprop(slotPts c (own0 c) q f ∗ slotPts c (own1 c) q f) := by
  rw [gOwn_eq]
  exact equiv_iff.mp ⟨(pointsTo_union (gSet_disj (own_ne c))).1, (pointsTo_union (gSet_disj (own_ne c))).2⟩

/-- A device's own rows of the result are its two slots'. -/
theorem own_outs (c : Dev nD) (f : (cc0_stg4_0 : Ref sig .tc).ty.Contents (Elt F)) :
    (((c : Thread nD τ).loc cc0_stg4_0) ↦[oOwn c]{fullShare} f : sProp 𝕄) = iprop(outPts c (own0 c) f ∗ outPts c (own1 c) f) := by
  rw [oOwn_eq]
  exact equiv_iff.mp ⟨(pointsTo_union (oSet_disj (own_ne c))).1, (pointsTo_union (oSet_disj (own_ne c))).2⟩

theorem own_outs_any (c : Dev nD) :
    iprop((∃ f, outPts (F := F) c (own0 c) f) ∗ ∃ f, outPts (F := F) c (own1 c) f)
      ⊢ (iprop(∃ f, ((c : Thread nD τ).loc cc0_stg4_0) ↦[oOwn c]{fullShare} f) : sProp 𝕄) := by
  unfold outPts
  rw [oOwn_eq]
  iintro ⟨⟨%f, Hf⟩, ⟨%g, Hg⟩⟩
  ihave H := (pointsTo_join (ℓ := (c : Thread nD τ).loc cc0_stg4_0) (I := oSet (own0 c)) (J := oSet (own1 c)) (q := fullShare) (f := f) (g := g) (oSet_disj (own_ne c))) $$ [Hf Hg]
  · isplitl [Hf] <;> iassumption
  iexists _; iexact H

theorem sound_xst (c : Dev nD) (O : CellTallies nD τ sig Unit) : Sound m K c .xst O := by
  intro α k Q
  unfold Act.run pre post
  rw [sepL_cons, sepL_one, sepL_cons, sepL_append, debt_cons, debt_one]
  dsimp only [tokI]
  iintro ⟨-, ⟨Hx, ⟨%f, Hg⟩⟩, ⟨%W, HO⟩⟩ Hk
  rw [show debtTok c .xw + debtTok c .raw = 0 from by show (0 : CellTallies nD τ sig Unit) + 0 = 0; rw [add_zero], add_zero]
  iapply (wp_load 𝒱₀ (c : Thread nD τ) none Set.univ (m := mX) (Finset.subset_univ _)) $$ Hx; iintro Hx
  rw [read_xw]
  iapply (wp_load_rect 𝒱₀ (c : Thread nD τ) none Set.univ (m := mG) (r := rOwnG c) (subset_refl _)) $$ Hg; iintro Hg
  iapply (wp_store 𝒱₀ (c : Thread nD τ) none Set.univ (m := mG) (r := rOwnG c) (Mk := Finset.univ) (S := gOwn c) (by exact subset_refl _)) $$ Hg; iintro Hg
  iapply Hk
  isplitr [HO]
  · isplitl [Hx]; · iexact Hx
    ihave Hg := (Entails.of_eq (pointsTo_congr (G_own m c f))) $$ Hg
    ihave Hg := (Entails.of_eq (own_slots c fullShare (G m))) $$ Hg
    icases Hg with ⟨H0, H1⟩
    isplitl [H0]
    · iapply (slot_quarters m c _).1; iexact H0
    · iapply (slot_quarters m c _).1; iexact H1
  · iexists W; iexact HO

theorem sound_w8 (c : Dev nD) (O : CellTallies nD τ sig Unit) : Sound m K c .w8 O := by
  intro α k Q
  unfold Act.run pre post
  rw [sepL_cons, sepL_one, sepL_cons, sepL_one, debt_cons, debt_one]
  dsimp only [tokI]
  iintro ⟨-, ⟨Hx, ⟨%f, Hg⟩⟩, ⟨%W, HO⟩⟩ Hk
  rw [show debtTok c .ww + debtTok c .w8t = 0 from by show (0 : CellTallies nD τ sig Unit) + 0 = 0; rw [add_zero], add_zero]
  iapply (wp_load 𝒱₀ (c : Thread nD τ) none Set.univ (m := mW) (Finset.subset_univ _)) $$ Hx; iintro Hx
  rw [read_ww]
  iapply (wp_load 𝒱₀ (c : Thread nD τ) none Set.univ (m := mV) (Finset.subset_univ _)) $$ Hg; iintro Hg
  iapply (wp_store 𝒱₀ (c : Thread nD τ) none Set.univ (m := mV) (r := rW) (Mk := Finset.univ) (Finset.subset_univ _)) $$ Hg; iintro Hg
  rw [write_w8]
  iapply Hk
  isplitr [HO]
  · isplitl [Hx]; · iexact Hx
    iexact Hg
  · iexists W; iexact HO

theorem sound_mm (c : Dev nD) (s : Fin 16) (hs : par c s ≠ c) (O : CellTallies nD τ sig Unit) : Sound m K c (.mm s) O := by
  intro α k Q
  unfold Act.run pre post
  rw [sepL_cons, sepL_cons, sepL_one, sepL_cons, sepL_cons, sepL_one, debt_cons, debt_cons, debt_one]
  dsimp only [tokI, slotPts, outPts]
  iintro ⟨-, ⟨Ha, ⟨%f, Ho⟩, Hv⟩, ⟨%W, HO⟩⟩ Hk
  rw [show debtTok c (.hold s 0) + (debtTok c (.mt s) + debtTok c .w8d) = 0 from by
    show (0 : CellTallies nD τ sig Unit) + (0 + 0) = 0; rw [add_zero, add_zero], add_zero]
  iapply (wp_load_rect 𝒱₀ (c : Thread nD τ) none Set.univ (m := mG) (r := rSlot s) (subset_refl _)) $$ Ha; iintro Ha
  iapply (wp_load 𝒱₀ (c : Thread nD τ) none Set.univ (m := mV) (Finset.subset_univ _)) $$ Hv; iintro Hv
  rw [read_w8]
  iapply (wp_load_rect 𝒱₀ (c : Thread nD τ) none Set.univ (m := mO) (r := rOut s) (subset_refl _)) $$ Ho; iintro Ho
  iapply (wp_store 𝒱₀ (c : Thread nD τ) none Set.univ (m := mO) (r := rOut s) (Mk := Finset.univ) (S := oSet s) (by exact subset_refl _)) $$ Ho; iintro Ho
  iapply Hk
  isplitr [HO]
  · isplitl [Ha]; · iexact Ha
    isplitl [Ho]
    · iapply (Entails.of_eq (pointsTo_congr (Y_slot m c s hs f))); iexact Ho
    · iexact Hv
  · iexists W; iexact HO

theorem sound_own (c : Dev nD) (O : CellTallies nD τ sig Unit) : Sound m K c .own O := by
  intro α k Q
  unfold Act.run pre post
  rw [sepL_cons, sepL_cons, sepL_cons, sepL_cons, sepL_one, sepL_cons, sepL_cons, sepL_cons, sepL_cons, sepL_one,
    debt_zero c [.hold (own0 c) 0, .hold (own1 c) 0, .mt (own0 c), .mt (own1 c), .w8d] (by
      intro t ht; simp only [List.mem_cons, List.not_mem_nil, or_false] at ht
      rcases ht with rfl | rfl | rfl | rfl | rfl <;> rfl), add_zero]
  dsimp only [tokI]
  iintro ⟨-, ⟨Ha, Hb, Hm, Hn, Hv⟩, ⟨%W, HO⟩⟩ Hk
  ihave Hg := (Entails.of_eq (own_slots c (qtr 0) (G m)).symm) $$ [Ha Hb]
  · isplitl [Ha] <;> iassumption
  ihave Ho := (own_outs_any c) $$ [Hm Hn]
  · isplitl [Hm] <;> iassumption
  icases Ho with ⟨%f, Ho⟩
  iapply (wp_load_rect 𝒱₀ (c : Thread nD τ) none Set.univ (m := mG) (r := rOwnG c) (subset_refl _)) $$ Hg; iintro Hg
  iapply (wp_load 𝒱₀ (c : Thread nD τ) none Set.univ (m := mV) (Finset.subset_univ _)) $$ Hv; iintro Hv
  rw [read_w8]
  iapply (wp_load_rect 𝒱₀ (c : Thread nD τ) none Set.univ (m := mO) (r := rOwnO c) (subset_refl _)) $$ Ho; iintro Ho
  iapply (wp_store 𝒱₀ (c : Thread nD τ) none Set.univ (m := mO) (r := rOwnO c) (Mk := Finset.univ) (S := oOwn c) (by exact subset_refl _)) $$ Ho; iintro Ho
  ihave Ho := (Entails.of_eq (pointsTo_congr (Y_own m c f))) $$ Ho
  ihave Ho := (Entails.of_eq (own_outs c (Y m c))) $$ Ho
  ihave Hg := (Entails.of_eq (own_slots c (qtr 0) (G m))) $$ Hg
  icases Ho with ⟨Hm, Hn⟩
  icases Hg with ⟨Ha, Hb⟩
  iapply Hk
  isplitr [HO]
  · isplitl [Ha]; · iexact Ha
    isplitl [Hb]; · iexact Hb
    isplitl [Hm]; · iexact Hm
    isplitl [Hn]; · iexact Hn
    iexact Hv
  · iexists W; iexact HO

end Cert.KProof

end
-- ==== Proof.Run.lean ====
module

public import proofs.«01_k».proof.Proof.Acts2

@[expose] public section

noncomputable section

/-! # A list of steps that can be run on the tokens can be run -/

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- Who a slot is sent to gets it from the sender. -/
theorem par_child (c : Fin 8) (s : Fin 16) (k : Fin 3) : child c s k ≠ c → par (child c s k) s = c := by
  revert c s k; decide +kernel

/-- What is taken and what is left are together what there was. -/
theorem takeToks_perm : ∀ (P X Z : List Tok), takeToks X P = some Z → X.Perm (P ++ Z)
  | [], X, Z, h => by
      cases X <;> (unfold takeToks at h; cases h; exact List.Perm.refl _)
  | t :: P, X, Z, h => by
      unfold takeToks at h
      by_cases ht : t ∈ X
      · rw [if_pos ht] at h
        exact (List.perm_cons_erase ht).trans ((takeToks_perm P _ Z h).cons t)
      · rw [if_neg ht] at h; cases h

/-- No action leaves anything owed by what it leaves. -/
theorem debt_post (c : Dev nD) (a : Act) : debt c (post c a) = 0 := by
  refine debt_zero c _ fun t ht => ?_
  cases a <;> simp only [post, quarters, dsts, List.mem_cons, List.mem_append, List.mem_flatMap, List.mem_map, List.not_mem_nil, or_false] at ht
  · rcases ht with rfl | ⟨d, -, x, -, rfl⟩ <;> rfl
  · rcases ht with rfl | (rfl | rfl | rfl | rfl) | (rfl | rfl | rfl | rfl) <;> rfl
  · rcases ht with rfl; rfl
  · rcases ht with rfl | rfl <;> rfl
  · rcases ht with rfl | rfl | rfl | rfl | rfl <;> rfl
  · rcases ht with rfl | rfl | rfl | rfl | rfl <;> rfl
  · rcases ht with rfl | rfl | rfl <;> rfl
  · rcases ht with rfl | rfl <;> rfl

/-- Every action does to the tokens what is said of it. -/
theorem sound (c : Dev nD) (a : Act) (Z : List Tok) (ha : okAct c a = true)
    (hw : ∀ g, waits? c a = some g → above c g Z = true) : Sound m K c a (debt c Z) := by
  cases a with
  | sig d => exact sound_sig m K c d (of_decide_eq_true ha) _
  | barwait => exact sound_barwait m K c _ (mayWait_above c (c, CI.bar) rfl Z (hw _ rfl))
  | xst => exact sound_xst m K c _
  | send s k d =>
      have h := of_decide_eq_true ha
      have hp : par d s = c := by
        have h₁ := h.1
        subst h₁
        exact par_child c s k h.2
      intro α k' Q
      exact sound_send m K c s k d h.1 h.2 hp (debt c Z) k' Q
  | w8 => exact sound_w8 m K c _
  | own => exact sound_own m K c _
  | recv s => exact sound_recv m K c s (of_decide_eq_true ha) _ (mayWait_above c (c, CI.recv s) rfl Z (hw _ rfl))
  | mm s => exact sound_mm m K c s (of_decide_eq_true ha) _
  | fin s k => exact sound_fin m K c s k (of_decide_eq_true ha) _ (mayWait_above c (c, CI.send s k) rfl Z (hw _ rfl))

/-- What a step on the tokens consists of. -/
theorem stepAct_some (c : Dev nD) (X Y : List Tok) (a : Act) (h : stepAct c X a = some Y) :
    ∃ Z, X.Perm (pre c a ++ Z) ∧ Y = post c a ++ Z ∧ Sound m K c a (debt c Z) := by
  unfold stepAct at h
  by_cases ha : okAct c a = true
  · rw [if_pos ha] at h
    cases hZ : takeToks X (pre c a) with
    | none => rw [hZ] at h; cases h
    | some Z =>
      rw [hZ] at h
      refine ⟨Z, takeToks_perm _ _ _ hZ, ?_⟩
      cases hg : waits? c a with
      | none =>
        rw [hg] at h
        refine ⟨(Option.some.inj h).symm, sound m K c a Z ha fun g h' => ?_⟩
        rw [hg] at h'; cases h'
      | some g =>
        rw [hg] at h
        dsimp only at h
        by_cases hab : above c g Z = true
        · rw [if_pos hab] at h
          refine ⟨(Option.some.inj h).symm, sound m K c a Z ha fun g' h' => ?_⟩
          rw [hg] at h'; cases h'; exact hab
        · rw [if_neg hab] at h; cases h
  · rw [if_neg ha] at h; cases h

theorem run_act (c : Dev nD) (X Y : List Tok) (a : Act) (h : stepAct c X a = some Y) {α : Type} (k : P (F := F) α) (Q : α → sProp 𝕄) :
    iprop(recs m K ∗ Inv m c X) ⊢ iprop((Inv m c Y -∗ runs c k Q) -∗ runs c (a.run c (scale m c) k) Q) := by
  obtain ⟨Z, hX, rfl, hs⟩ := stepAct_some m K c X Y a h
  unfold Inv
  rw [sepL_perm _ hX, sepL_append, sepL_append, debt_perm c hX, debt_append, debt_append, debt_post, zero_add, add_comm]
  iintro ⟨#HR, ⟨Hp, HZ⟩, HO⟩ Hk
  iapply (hs k Q) $$ [Hp HO]
  · isplitr; · iexact HR
    isplitl [Hp]; · iexact Hp
    iexact HO
  iintro ⟨Hq, HO⟩
  iapply Hk
  isplitr [HO]
  · isplitl [Hq] <;> iassumption
  · iexact HO

theorem run_acts (c : Dev nD) {α : Type} (k : P (F := F) α) (Q : α → sProp 𝕄) : ∀ (al : List Act) (X Y : List Tok), stepActs c X al = some Y →
    (iprop(recs m K ∗ Inv m c X) ⊢ iprop((Inv m c Y -∗ runs c k Q) -∗ runs c (runActs c (scale m c) k al) Q))
  | [], X, Y, h => by
      unfold stepActs at h; cases h
      unfold runActs
      iintro ⟨-, HI⟩ Hk
      iapply Hk; iexact HI
  | a :: al, X, Y, h => by
      unfold stepActs at h
      obtain ⟨Z, h₁, h₂⟩ := Option.bind_eq_some_iff.mp h
      have ih := run_acts c k Q al Z Y h₂
      unfold runActs
      iintro ⟨#HR, HI⟩ Hk
      iapply (run_act m K c X Z a h₁ (runActs c (scale m c) k al) Q) $$ [HI]
      · isplitr; · iexact HR
        iexact HI
      iintro HI
      iapply ih $$ [HI]
      · isplitr; · iexact HR
        iexact HI
      iexact Hk

theorem run_steps (c : Dev nD) {α : Type} (k : P (F := F) α) (Q : α → sProp 𝕄) : ∀ (ss : List Step) (X Y : List Tok), stepL c X ss = some Y →
    (iprop(recs m K ∗ Inv m c X) ⊢ iprop((Inv m c Y -∗ runs c k Q) -∗ runs c (runL c (scale m c) k ss) Q))
  | [], X, Y, h => by
      unfold stepL at h; cases h
      unfold runL
      iintro ⟨-, HI⟩ Hk
      iapply Hk; iexact HI
  | .raw a :: ss, X, Y, h => by
      unfold stepL at h
      obtain ⟨Z, h₁, h₂⟩ := Option.bind_eq_some_iff.mp h
      have ih := run_steps c k Q ss Z Y h₂
      unfold runL
      iintro ⟨#HR, HI⟩ Hk
      iapply (run_act m K c X Z a h₁ (runL c (scale m c) k ss) Q) $$ [HI]
      · isplitr; · iexact HR
        iexact HI
      iintro HI
      iapply ih $$ [HI]
      · isplitr; · iexact HR
        iexact HI
      iexact Hk
  | .grd us al :: ss, X, Y, h => by
      unfold stepL at h
      unfold runL
      by_cases hg : guardBit (wd c) us = 1#1
      · rw [if_pos hg] at h
        rw [dif_pos hg]
        obtain ⟨Z, h₁, h₂⟩ := Option.bind_eq_some_iff.mp h
        have ih := run_steps c k Q ss Z Y h₂
        iintro ⟨#HR, HI⟩ Hk
        iapply (run_acts m K c (runL c (scale m c) k ss) Q al X Z h₁) $$ [HI]
        · isplitr; · iexact HR
          iexact HI
        iintro HI
        iapply ih $$ [HI]
        · isplitr; · iexact HR
          iexact HI
        iexact Hk
      · rw [if_neg hg] at h
        rw [dif_neg hg]
        exact run_steps c k Q ss X Y h

/-! ## The whole body -/

/-- The scale operands on device `c`. -/
def scalePts (c : Dev nD) : sProp 𝕄 :=
  iprop((((c : Thread nD τ).loc cc0_stg2_0) ↦{fullShare} astg m c) ∗ (((c : Thread nD τ).loc cc0_stg3_0) ↦{fullShare} bstg m c))

theorem zero1 : (![0] : Fin 1 → ℕ) = fun _ => 0 := funext fun a => by fin_cases a; rfl
theorem read_a (f : (cc0_stg2_0 : Ref sig .tc).ty.Contents (Elt F)) : mA.view.readAt (Elt F) r1.toLoadRect f = f :=
  Memref.readAt_unit_zero (Elt F) cc0_stg2_0 zero1 _ f
theorem read_b (f : (cc0_stg3_0 : Ref sig .tc).ty.Contents (Elt F)) : mB.view.readAt (Elt F) r1.toLoadRect f = f :=
  Memref.readAt_unit_zero (Elt F) cc0_stg3_0 zero1 _ f

theorem runs_deviceId {α : Type} (c : Dev nD) (k : Dev nD → P (F := F) α) (Q : α → sProp 𝕄) :
    runs c (.op .deviceId k) Q = runs c (k c) Q := by
  unfold runs; rw [wp_deviceId]

theorem runs_ret {α : Type} (c : Dev nD) (x : α) (Q : α → sProp 𝕄) : iprop(|={Set.univ}=> Q x) ⊢ runs (F := F) c (.ret x) Q := by
  unfold runs; rw [wp_ret]

/-- The body takes a device from its first tokens to its last. -/
theorem run_body (c : Dev nD) (Q : PUnit → sProp 𝕄) :
    iprop(recs m K ∗ Inv m c (init c) ∗ scalePts m c)
      ⊢ iprop(((Inv m c final ∗ scalePts m c) -∗ |={Set.univ}=> Q ⟨⟩) -∗ runs c (cc0_body (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3) Q) := by
  have e := (congrArg (fun p => runs c p Q) (body_eq (F := F) (scale m c))).trans (runs_deviceId c _ Q)
  rw [e]
  unfold scalePts
  have hf : Inv m c (ends c) = Inv m c final := by
    unfold Inv; rw [sepL_perm _ (ends_perm c), debt_perm c (ends_perm c)]
  iintro ⟨#HR, HI, Ha, Hb⟩ Hk
  iapply (run_steps m K c _ Q opsA (init c) (mids c) (checkA c)) $$ [HI]
  · isplitr; · iexact HR
    iexact HI
  iintro HI
  iapply (wp_load 𝒱₀ (c : Thread nD τ) none Set.univ (m := mA) (Finset.subset_univ _)) $$ Ha; iintro Ha
  iapply (wp_load 𝒱₀ (c : Thread nD τ) none Set.univ (m := mB) (Finset.subset_univ _)) $$ Hb; iintro Hb
  rw [read_a, read_b]
  iapply (run_steps m K c _ Q opsB (mids c) (ends c) (checkB c)) $$ [HI]
  · isplitr; · iexact HR
    iexact HI
  iintro HI
  ihave HI := (Entails.of_eq hf) $$ HI
  iapply (runs_ret c ⟨⟩ Q)
  iapply Hk
  isplitl [HI]; · iexact HI
  isplitl [Ha] <;> iassumption

end Cert.KProof

end
-- ==== Proof.Start.lean ====
module

public import proofs.«01_k».proof.Proof.Run

@[expose] public section

noncomputable section

/-! # The first tokens out of what the body finds, and what it leaves out of the last -/

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem slots_all : ∀ s, s ∈ slots := by decide
theorem slots_nodup : slots.Nodup := by decide

/-- Over all the names of a device's cells: the sends', the arrivals', the barrier's. -/
theorem bigSep_CI {M : Type} [URA M] (Φ : CI → sProp M) :
    bigSep Finset.univ Φ = iprop(sepL (fun x => Φ (CI.send x.1 x.2)) pairs ∗ sepL (fun s => Φ (CI.recv s)) slots ∗ Φ CI.bar) := by
  have h : ∀ i : CI, i ∈ pairs.map (Sum.inl : Fin 16 × Fin 3 → CI) ++ (slots.map CI.recv ++ [CI.bar]) := by
    rintro (x | s | u)
    · exact List.mem_append_left _ (List.mem_map_of_mem (by revert x; decide +kernel))
    · exact List.mem_append_right _ (List.mem_append_left _ (List.mem_map_of_mem (slots_all s)))
    · exact List.mem_append_right _ (List.mem_append_right _ List.mem_cons_self)
  rw [sepL_univ Φ _ h (by decide +kernel),
    sepL_append, sepL_append, sepL_map, sepL_map, sepL_one]

/-- The duties device `c` pays. -/
def payToks (c : Dev nD) : sProp 𝕄 :=
  iprop(sepL (fun d => dutyTok ER (barCell d) 0 c) (nbrs c)
    ∗ sepL (fun x => if child c x.1 x.2 = c then iprop(emp)
        else iprop(dutyTok ER (sendCell c x.1 x.2) 0 0 ∗ dutyTok ER (recvCell (child c x.1 x.2) x.1) 0 0)) pairs)

/-- The credit device `c` has from the others. -/
def credits (c : Dev nD) : sProp 𝕄 :=
  iprop(cred (tallyAt (barCell c) () 3) ∗ sepL (fun s => if par c s = c then iprop(emp) else cred (tallyAt (recvCell c s) () N)) slots)

/-- Device `c`'s positions at its cells. -/
def posAll (c : Dev nD) : sProp 𝕄 := bigSep Finset.univ fun i : CI => atPos ER (kcell (c, i)) 0 ∅ 0

theorem sent_slots (c : Fin 8) : slots.Perm (own0 c :: own1 c :: (nbrs c).flatMap fun d => (outs d c).map Prod.fst) := by
  revert c; decide +kernel
theorem outs_child (c d : Fin 8) (x : Fin 16 × Fin 3) (h : x ∈ outs d c) : child d x.1 x.2 = c := by
  unfold outs at h
  have := (List.mem_filter.mp h).2
  simp only [decide_eq_true_eq] at this
  exact this.1

/-- A buffer of the gathered operand's shape is its slots. -/
theorem scratch_slots (c : Dev nD) (f : (cc0_scratch0 : Ref sig .tc).ty.Contents (Elt F)) :
    (((c : Thread nD τ).loc cc0_scratch0) ↦{fullShare} f : sProp 𝕄) = sepL (fun s => slotPts c s fullShare f) slots := by
  rw [← sepL_univ _ slots slots_all slots_nodup]
  have h := pointsTo_biUnion (Ix := Unit) (Name := ℕ) (U := UU) (Lvl := ℕ) (q := fullShare) (ℓ := (c : Thread nD τ).loc cc0_scratch0) (f := f) Finset.univ gSet (fun s _ t _ hst => gSet_disj hst)
  rw [gSet_all] at h
  exact h

/-- A buffer of the result's shape is its slots' rows. -/
theorem out_slots (c : Dev nD) (f : (cc0_stg4_0 : Ref sig .tc).ty.Contents (Elt F)) :
    (((c : Thread nD τ).loc cc0_stg4_0) ↦{fullShare} f : sProp 𝕄) = sepL (fun s => outPts c s f) slots := by
  rw [← sepL_univ _ slots slots_all slots_nodup]
  have h := pointsTo_biUnion (Ix := Unit) (Name := ℕ) (U := UU) (Lvl := ℕ) (q := fullShare) (ℓ := (c : Thread nD τ).loc cc0_stg4_0) (f := f) Finset.univ oSet (fun s _ t _ hst => oSet_disj hst)
  rw [oSet_all] at h
  exact h

/-- The gathered operand's buffer, split into the device's own rows and those that each neighbour will send to. -/
theorem scratch_split (c : Dev nD) (f : (cc0_scratch0 : Ref sig .tc).ty.Contents (Elt F)) :
    (((c : Thread nD τ).loc cc0_scratch0) ↦{fullShare} f : sProp 𝕄)
      ⊢ iprop(tokI m c .raw ∗ sepL (fun d => sepL (dstPts (d : Dev nD)) (outs d c)) (nbrs c)) := by
  rw [scratch_slots, sepL_perm _ (sent_slots c), sepL_cons, sepL_cons, sepL_flatMap]
  iintro ⟨H0, H1, H⟩
  isplitl [H0 H1]
  · dsimp only [tokI]
    iexists f
    iapply (Entails.of_eq (own_slots c fullShare f).symm)
    isplitl [H0] <;> iassumption
  · have e : sepL (fun d => sepL (fun s => slotPts c s fullShare f) ((outs d c).map Prod.fst)) (nbrs c)
        ⊢ (sepL (fun d => sepL (dstPts (d : Dev nD)) (outs d c)) (nbrs c) : sProp 𝕄) := by
      refine sepL_mono fun d _ => ?_
      rw [sepL_map]
      refine sepL_mono fun x hx => ?_
      unfold dstPts slotAny
      rw [outs_child c d x hx]
      iintro H
      iexists f; iexact H
    iapply e $$ H

/-- A cell no one raises is done with at once. -/
theorem done_of_unused (c : Dev nD) (i : CI) (h : dut c i = ∅) : atPos ER (kcell (c, i)) 0 ∅ 0 ⊢ done m (kcell (c, i)) := by
  unfold done
  iintro H
  iexists 0
  isplitr
  · ipureintro
    intro r _
    rcases Nat.eq_zero_or_pos r with rfl | hr
    · rw [duties_cell, h]
    · exact duties_later m _ r hr
  · iexact H

theorem recv_tok (c : Dev nD) (s : Fin 16) :
    iprop(atPos ER (recvCell c s) 0 ∅ 0 ∗ if par c s = c then iprop(emp) else cred (tallyAt (recvCell c s) () N))
      ⊢ tokI m c (if par c s = c then .rd s else .rt s) := by
  by_cases h : par c s = c
  · rw [if_pos h, if_pos h]
    iintro ⟨H, -⟩
    dsimp only [tokI]
    iapply (done_of_unused m c (CI.recv s) (if_pos h)); iexact H
  · rw [if_neg h, if_neg h]
    exact .rfl

theorem send_tok (c : Dev nD) (x : Fin 16 × Fin 3) :
    iprop(atPos ER (sendCell c x.1 x.2) 0 ∅ 0 ∗ if child c x.1 x.2 = c then iprop(emp)
        else iprop(dutyTok ER (sendCell c x.1 x.2) 0 0 ∗ dutyTok ER (recvCell (child c x.1 x.2) x.1) 0 0))
      ⊢ tokI m c (if child c x.1 x.2 = c then .sd x.1 x.2 else .st x.1 x.2) := by
  by_cases h : child c x.1 x.2 = c
  · rw [if_pos h, if_pos h]
    iintro ⟨H, -⟩
    dsimp only [tokI]
    iapply (done_of_unused m c (CI.send x.1 x.2) (if_pos h)); iexact H
  · rw [if_neg h, if_neg h]
    dsimp only [tokI]
    iintro ⟨H, H1, H2⟩
    isplitl [H1]; · iexact H1
    isplitl [H2] <;> iassumption

/-- The first tokens. -/
theorem init_intro (c : Dev nD) :
    iprop((posAll c ∗ payToks c ∗ credits c)
        ∗ (∃ f, ((c : Thread nD τ).loc cc0_scratch0) ↦{fullShare} f) ∗ (∃ f, ((c : Thread nD τ).loc cc0_scratch1) ↦{fullShare} f)
        ∗ (((c : Thread nD τ).loc cc0_stg0_0) ↦{fullShare} xstg m c) ∗ (((c : Thread nD τ).loc cc0_stg1_0) ↦{fullShare} wstg m c)
        ∗ (∃ f, ((c : Thread nD τ).loc cc0_stg4_0) ↦{fullShare} f))
      ⊢ sepL (tokI m c) (init c) := by
  unfold posAll payToks credits init
  rw [bigSep_CI, sepL_append, sepL_append, sepL_append, sepL_append, sepL_map, sepL_map, sepL_map, sepL_map,
    sepL_cons, sepL_cons, sepL_cons, sepL_cons, sepL_one]
  iintro ⟨⟨⟨HpS, HpR, HpB⟩, ⟨HtB, HtS⟩, ⟨HcB, HcR⟩⟩, ⟨%f0, Hg⟩, Hv, Hx, Hw, ⟨%f4, Ho⟩⟩
  ihave H := (scratch_split m c f0) $$ Hg
  icases H with ⟨Hraw, Hd⟩
  isplitl [HpB HcB Hx Hraw Hw Hv]
  · isplitl [HpB HcB]
    · dsimp only [tokI]
      isplitl [HpB]; · iexact HpB
      iexact HcB
    isplitl [Hx]; · dsimp only [tokI]; iexact Hx
    isplitl [Hraw]; · iexact Hraw
    isplitl [Hw]; · dsimp only [tokI]; iexact Hw
    dsimp only [tokI]; iexact Hv
  isplitl [HtB Hd]
  · have e : iprop(sepL (fun d => dutyTok ER (barCell d) 0 c) (nbrs c) ∗ sepL (fun d => sepL (dstPts (d : Dev nD)) (outs d c)) (nbrs c))
        ⊢ sepL (fun d => tokI m c (.sg d)) (nbrs c) := by
      rw [← sepL_sep]
      exact sepL_mono fun d _ => .rfl
    iapply e
    isplitl [HtB] <;> iassumption
  isplitl [HpR HcR]
  · have e : iprop(sepL (fun s => atPos ER (kcell (c, CI.recv s)) 0 ∅ 0) slots
          ∗ sepL (fun s => if par c s = c then iprop(emp) else cred (tallyAt (recvCell c s) () N)) slots)
        ⊢ sepL (fun s => tokI m c (if par c s = c then .rd s else .rt s)) slots := by
      rw [← sepL_sep]
      exact sepL_mono fun s _ => recv_tok m c s
    iapply e
    isplitl [HpR] <;> iassumption
  isplitl [HpS HtS]
  · have e : iprop(sepL (fun x => atPos ER (kcell (c, CI.send x.1 x.2)) 0 ∅ 0) pairs
          ∗ sepL (fun x => if child c x.1 x.2 = c then iprop(emp)
        else iprop(dutyTok ER (sendCell c x.1 x.2) 0 0 ∗ dutyTok ER (recvCell (child c x.1 x.2) x.1) 0 0)) pairs)
        ⊢ sepL (fun x => tokI m c (if child c x.1 x.2 = c then .sd x.1 x.2 else .st x.1 x.2)) pairs := by
      rw [← sepL_sep]
      exact sepL_mono fun x _ => send_tok m c x
    iapply e
    isplitl [HpS] <;> iassumption
  · ihave H := (Entails.of_eq (out_slots c f4)) $$ Ho
    have e : sepL (fun s => outPts (F := F) c s f4) slots ⊢ sepL (fun s => tokI m c (.mt s)) slots :=
      sepL_mono fun s _ => by
        dsimp only [tokI]
        iintro H
        iexists f4; iexact H
    iapply e $$ H

/-- A cell done with is closed, at zero. -/
theorem close_cell (c : Dev nD) (i : CI) :
    iprop(recs m K ∗ done m (kcell (c, i))) ⊢ |={Set.univ}=> semVal (kcell (c, i)) 0 := by
  unfold done
  iintro ⟨HR, ⟨%R, %hR, Hp⟩⟩
  ihave H := (recs_cell m K (c, i)) $$ HR
  icases H with ⟨HI, -⟩
  iapply (Rounds.cell_close ER (Rd m) (κ := K (c, i)) (Set.mem_univ _) (fun h => h) hR)
  isplitl [HI] <;> iassumption

/-- All of a device's cells. -/
theorem close_cells (c : Dev nD) :
    iprop(recs m K ∗ bigSep Finset.univ fun i : CI => done m (kcell (c, i)))
      ⊢ |={Set.univ}=> bigSep Finset.univ fun i : CI => semVal (kcell (c, i)) 0 := by
  refine (BI.Entails.trans ?_ (bigSep_fupd Finset.univ fun i : CI => (semVal (kcell (c, i)) 0 : sProp 𝕄)))
  refine (sep_mono_left (BI.bigSep_of_persistent (Finset.univ : Finset CI) (recs m K))).trans ?_
  rw [← bigSep_sep']
  exact bigSep_mono fun i _ => close_cell m K c i

theorem debt_final (c : Dev nD) : debt c final = 0 := debt_zero c final (by revert c; decide +kernel)

/-- What the last tokens leave. -/
theorem final_elim (c : Dev nD) :
    iprop(recs m K ∗ sepL (tokI m c) final)
      ⊢ |={Set.univ}=> iprop((bigSep Finset.univ fun i : CI => semVal (kcell (c, i)) 0)
        ∗ (((c : Thread nD τ).loc cc0_scratch0) ↦{fullShare} G m) ∗ (((c : Thread nD τ).loc cc0_scratch1) ↦{fullShare} V m c)
        ∗ (((c : Thread nD τ).loc cc0_stg0_0) ↦{fullShare} xstg m c) ∗ (((c : Thread nD τ).loc cc0_stg1_0) ↦{fullShare} wstg m c)
        ∗ (((c : Thread nD τ).loc cc0_stg4_0) ↦{fullShare} Y m c)) := by
  unfold final
  rw [sepL_append, sepL_append, sepL_append, sepL_append, sepL_map, sepL_map, sepL_map, sepL_flatMap,
    sepL_cons, sepL_cons, sepL_cons, sepL_one]
  iintro ⟨#HR, ⟨HB, Hx, Hw, Hv⟩, HdR, HdS, Hmd, Hq⟩
  have e := close_cells m K c
  rw [bigSep_CI] at e
  imod e $$ [HB HdR HdS] with Hz
  · isplitr; · iexact HR
    isplitl [HdS]; · dsimp only [tokI]; iexact HdS
    isplitl [HdR]; · dsimp only [tokI]; iexact HdR
    dsimp only [tokI]; iexact HB
  imodintro
  isplitl [Hz]; · iexact Hz
  isplitl [Hq]
  · iapply (Entails.of_eq (scratch_slots c (G m)).symm)
    iapply (sepL_mono fun s _ => (slot_quarters m c s).2) $$ Hq
  isplitl [Hv]; · dsimp only [tokI]; iexact Hv
  isplitl [Hx]; · dsimp only [tokI]; iexact Hx
  isplitl [Hw]; · dsimp only [tokI]; iexact Hw
  iapply (Entails.of_eq (out_slots c (Y m c)).symm)
  dsimp only [tokI]; iexact Hmd

end Cert.KProof

end
-- ==== Proof.Main.lean ====
module

public import proofs.«01_k».proof.Proof.Start
public import proofs.«01_k».proof.Proof.Gen.KernelIdeal.Points

@[expose] public section

noncomputable section

/-! # The body's obligation -/

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What device `c`'s body starts from, beside its buffers: the records, its positions, duties and credit. -/
def start (c : Dev nD) : sProp 𝕄 := iprop((∃ K, recs m K) ∗ posAll c ∗ payToks c ∗ credits c)

/-- Before the point. -/
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))

/-- After it: every cell of the device closed at zero. -/
def Φ₁ (c : Dev nD) : sProp 𝕄 :=
  iprop((bigSep Finset.univ fun i : CI => semVal (kcell (c, i)) 0)
    ∗ (∃ f, ((c : Thread nD τ).loc cc0_scratch0) ↦{fullShare} f) ∗ (∃ f, ((c : Thread nD τ).loc cc0_scratch1) ↦{fullShare} f))

/-- The pipeline's proof data: the staged operands stay, the result's buffer holds the result. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => astg m c
    | ⟨3, _⟩ => bstg m c
    | ⟨4, _⟩ => Y m c
  Φ t := match t with
    | ⟨0, _⟩ => Φ₀ m c
    | ⟨_ + 1, _⟩ => Φ₁ (F := F) c
  q _ := fullShare
  owed t := match t with
    | ⟨0, _⟩ => debt c (init c)
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ (F := F) c ∗ (dats m 0 c).owesAt () t0_0.succ ∗ stg c cc0_stg0_0 (xstg m c) ∗ stg c cc0_stg1_0 (wstg m c)
    ∗ stg c cc0_stg2_0 (astg m c) ∗ stg c cc0_stg3_0 (bstg m c) ∗ stg c cc0_stg4_0 (Y m c))

theorem before_0 (c : Dev nD) (d) : (dats m 0 c).before (0 : Fin 5) t0_0 d = xstg m c := by
  unfold Dat.before; rw [if_pos (fetch0_0 t0_0)]; rfl
theorem before_1 (c : Dev nD) (d) : (dats m 0 c).before (1 : Fin 5) t0_0 d = wstg m c := by
  unfold Dat.before; rw [if_pos (fetch0_1 t0_0)]; rfl
theorem before_2 (c : Dev nD) (d) : (dats m 0 c).before (2 : Fin 5) t0_0 d = astg m c := by
  unfold Dat.before; rw [if_pos (fetch0_2 t0_0)]; rfl
theorem before_3 (c : Dev nD) (d) : (dats m 0 c).before (3 : Fin 5) t0_0 d = bstg m c := by
  unfold Dat.before; rw [if_pos (fetch0_3 t0_0)]; rfl

/-- The body, from what it finds to what it leaves. -/
theorem sound_body (c : Dev nD) :
    bodyPre m c ⊢ runs c (cc0_body (F := F) mX (Memref.isWhole_whole _) mW (Memref.isWhole_whole _) mA (Memref.isWhole_whole _) mB (Memref.isWhole_whole _) mO (Memref.isWhole_whole _) mG (Memref.isWhole_whole _) mV (Memref.isWhole_whole _) cc0_scratch2 cc0_scratch3) (fun _ => bodyPost m c) := by
  unfold bodyPre Φ₀ start
  simp only [before_0, before_1, before_2, before_3]
  unfold Dat.owesAt Pipeline.owesWithin
  iintro ⟨⟨⟨⟨%K, #HR⟩, Hp, Ht, Hc⟩, Hg, Hv⟩, ⟨%W, %hW, HO⟩, ⟨%d0, %g0, %hg0, Hx⟩, ⟨%d1, %g1, %hg1, Hw⟩, ⟨%d2, %g2, %hg2, Ha⟩, ⟨%d3, %g3, %hg3, Hb⟩, ⟨%d4, %g4, %hg4, Ho⟩⟩
  subst hg0; subst hg1; subst hg2; subst hg3
  ihave HI := (init_intro m c) $$ [Hp Ht Hc Hg Hv Hx Hw Ho]
  · isplitl [Hp Ht Hc]
    · isplitl [Hp]; · iexact Hp
      isplitl [Ht] <;> iassumption
    isplitl [Hg]; · iexact Hg
    isplitl [Hv]; · iexact Hv
    isplitl [Hx]; · iexact Hx
    isplitl [Hw]; · iexact Hw
    iexists g4; iexact Ho
  iapply (run_body m K c _) $$ [HI HO Ha Hb]
  · isplitr; · iexact HR
    isplitl [HI HO]
    · unfold Inv
      isplitl [HI]; · iexact HI
      iexists W; iexact HO
    unfold scalePts
    isplitl [Ha] <;> iassumption
  unfold Inv scalePts
  iintro ⟨⟨HI, ⟨%W', HO⟩⟩, Ha, Hb⟩
  imod (final_elim m K c) $$ [HI] with ⟨Hz, Hg, Hv, Hx, Hw, Ho⟩
  · isplitr; · iexact HR
    iexact HI
  imodintro
  unfold bodyPost Φ₁
  isplitl [Hz Hg Hv]
  · isplitl [Hz]; · iexact Hz
    isplitl [Hg]
    · iexists _; iexact Hg
    iexists _; iexact Hv
  isplitl [HO]
  · ihave HO := (Entails.of_eq (congrArg (fun O => (owes (c : Thread nD τ) O W' : sProp 𝕄)) (debt_final c))) $$ HO
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 4000 in
/-- The obligation of the pipeline's one point. -/
theorem body_obligation (c : Dev nD) : BodyObligation (dats (F := F) m 0 c) (defs₀ (F := F)) 𝒱₀ () Set.univ := fun t => by
  rw [fin_N0 t]
  rw [bigSep_W0, bigSep_W0]
  simp only [owns_whole]
  exact sound_body m c

end Cert.KProof

end
-- ==== Proof.Launch.lean ====
module

public import proofs.«01_k».proof.Proof.Main
public import Idealize.ShloMosaic.Lib.Pipeline.CollectiveSegs

@[expose] public section

noncomputable section

/-! # The launch, and the run of the eight devices -/

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The scoped semaphores of the kernel: of the sends, of the arrivals. -/
def osem : (Fin 16 × Fin 3) ⊕ Fin 16 → SemLoc sig
  | .inl x => csem (CI.send x.1 x.2)
  | .inr s => csem (CI.recv s)

theorem ownSemFacts : Pipeline.OwnSemFacts cfg0.spec osem := by decide +kernel

theorem bigSep_sum {M : Type} [URA M] {A B : Type} [Fintype A] [Fintype B] (Φ : A ⊕ B → sProp M) :
    bigSep Finset.univ Φ = iprop(bigSep Finset.univ (fun a => Φ (.inl a)) ∗ bigSep Finset.univ (fun b => Φ (.inr b))) := bigSep_univ_sum Φ
theorem bigSep_unit {M : Type} [URA M] (Φ : Unit → sProp M) : bigSep Finset.univ Φ = Φ () := by
  rw [sepL_univ Φ [()] (fun _ => List.mem_cons_self) (by decide), sepL_one]

theorem unscopedSems0_bar (c : Dev nD) : (unscopedSems0 c : sProp 𝕄) = semVal (barCell c) 0 := by
  unfold unscopedSems0; rw [bigSep_eq_bigSepL_of_eq [SemLoc.reg barS] (by decide) (by decide)]; rfl

theorem assoc_r {M : Type} [URA M] (A B C : sProp M) : iprop((A ∗ B) ∗ C) ⊢ iprop(A ∗ B ∗ C) := by
  iintro ⟨⟨HA, HB⟩, HC⟩
  isplitl [HA]; · iexact HA
  isplitl [HB] <;> iassumption
theorem assoc_l {M : Type} [URA M] (A B C : sProp M) : iprop(A ∗ B ∗ C) ⊢ iprop((A ∗ B) ∗ C) := by
  iintro ⟨HA, HB, HC⟩
  isplitl [HA HB]
  · isplitl [HA] <;> iassumption
  iexact HC
theorem assoc_eq {M : Type} [URA M] (A B C : sProp M) : iprop((A ∗ B) ∗ C) = iprop(A ∗ B ∗ C) :=
  equiv_iff.mp ⟨assoc_r A B C, assoc_l A B C⟩

/-- All of a device's cells at zero: its scoped ones and the barrier's. -/
theorem sems_CI (c : Dev nD) :
    (bigSep Finset.univ fun i : CI => semVal (kcell (c, i)) 0 : sProp 𝕄)
      = iprop(Pipeline.ownSems0 (Ix := Unit) (Name := ℕ) (U := UU) (Lvl := ℕ) (Val := Elt F) (τ := τ) osem c ∗ unscopedSems0 c) := by
  unfold Pipeline.ownSems0
  rw [unscopedSems0_bar, bigSep_sum, bigSep_sum, bigSep_sum, bigSep_unit]
  have e1 : (fun x => semVal ((c : Thread nD τ), osem (.inl x)) 0 : Fin 16 × Fin 3 → sProp 𝕄) = fun x => semVal (kcell (c, .inl x)) 0 := rfl
  have e2 : (fun x => semVal ((c : Thread nD τ), osem (.inr x)) 0 : Fin 16 → sProp 𝕄) = fun x => semVal (kcell (c, .inr (.inl x))) 0 := rfl
  rw [e1, e2]
  exact (assoc_eq _ _ _).symm

/-! ## The ghost state -/

def cellsAll : Finset (GSem nD τ sig) := Finset.univ.map ⟨kcell, kcell_inj⟩

/-- A token of every device for every cell; those that no duty names are never used. -/
def tokOf (x : Dev nD × CI × Dev nD) : GSem nD τ sig × ℕ × Dev nD := (kcell (x.1, x.2.1), 0, x.2.2)
theorem tokOf_inj : Function.Injective tokOf := by
  rintro ⟨c, i, d⟩ ⟨c', i', d'⟩ h
  have h1 := kcell_inj (Prod.mk.inj h).1
  have h2 := (Prod.mk.inj (Prod.mk.inj h).2).2
  cases h1; cases h2; rfl
def toksAll : Finset (GSem nD τ sig × ℕ × Dev nD) := Finset.univ.map ⟨tokOf, tokOf_inj⟩

def u₀ : UU :=
  (initOf (Pipeline.cells cfgs cellOf_inj) (Pipeline.launchToks cfgs cellOf_inj), initOf cellsAll toksAll)

/-- The tokens of device `c`'s own cells. -/
def toks (c : Dev nD) : sProp 𝕄 :=
  bigSep Finset.univ fun i : CI => bigSep Finset.univ fun d : Dev nD => dutyTok ER (kcell (c, i)) 0 d

/-- What the launch deals device `c`. -/
def G0 (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks (F := F) c)

/-- The cells' records without the levels. -/
def recs0 (K : Dev nD × CI → ℕ) : sProp 𝕄 :=
  bigSep Finset.univ fun x => iprop(cellInv ER (Rd m) (K x) (kcell x) ∗ reached ER (kcell x) 0)

instance recs0_persistent (K : Dev nD × CI → ℕ) : BI.Persistent (recs0 m K) := by unfold recs0; infer_instance

/-- What the global step makes of it. -/
def G1 (c : Dev nD) : sProp 𝕄 := iprop((∃ K, recs0 m K) ∗ posAll (F := F) c ∗ payToks c)

theorem fund_all : BI.own (ER (initOf cellsAll toksAll)) ⊢ (|==> bigSep Finset.univ (G0 m) : sProp 𝕄) := by
  have hX (Φ : GSem nD τ sig → sProp 𝕄) : bigSep cellsAll Φ = bigSep Finset.univ fun c : Dev nD => bigSep Finset.univ fun i : CI => Φ (kcell (c, i)) := by
    unfold cellsAll; rw [bigSep_map, bigSep_univ_prod]; rfl
  have hT : bigSep toksAll (fun x => (dutyTok ER x.1 x.2.1 x.2.2 : sProp 𝕄)) = bigSep Finset.univ fun c : Dev nD => toks (F := F) c := by
    unfold toksAll; rw [bigSep_map, bigSep_univ_prod]
    exact bigSep_congr fun c _ => by unfold toks; rw [bigSep_univ_prod]; rfl
  iintro HX
  imod (Rounds.fund ER (Rd m) cellsAll toksAll) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G0; simp only [bigSep_sep']
  isplitl [Hst]; · iexact Hst
  isplitl [Hat Hr]
  · isplitl [Hat] <;> iassumption
  iexact Htok

/-! ### The tokens dealt to those who pay the duties -/

def devs : List (Dev nD) := List.finRange 8
theorem bigSep_dev {M : Type} [URA M] (Φ : Dev nD → sProp M) : bigSep Finset.univ Φ = sepL Φ devs :=
  sepL_univ Φ devs (by decide) (by decide)

theorem deal_bar :
    (bigSep Finset.univ fun c : Dev nD => bigSep Finset.univ fun d : Dev nD => (dutyTok ER (barCell c) 0 d : sProp 𝕄))
      ⊢ bigSep Finset.univ fun c : Dev nD => sepL (fun d => dutyTok ER (barCell d) 0 c) (nbrs c) := by
  rw [← bigSep_univ_prod (fun x : Dev nD × Dev nD => (dutyTok ER (barCell x.1) 0 x.2 : sProp 𝕄)),
    bigSep_univ_equiv (Equiv.prodComm (Dev nD) (Dev nD)), bigSep_univ_prod]
  refine bigSep_mono fun d _ => ?_
  rw [← sepL_finset (fun c : Dev nD => (dutyTok ER (barCell c) 0 d : sProp 𝕄)) (nbrs d).toFinset (nbrs d) rfl (nbrs_nodup d)]
  exact bigSep_subset (Finset.subset_univ _)

/-- All the arrivals; those that a device's sends cause; those that no send causes. -/
def arrAll : List (Dev nD × Fin 16) := devs.flatMap fun c => slots.map fun s => (c, s)
def arrOf (c : Dev nD) : List (Dev nD × Fin 16) := (pairs.filter fun x => !decide (child c x.1 x.2 = c)).map fun x => (child c x.1 x.2, x.1)
def arrNone : List (Dev nD × Fin 16) := devs.flatMap fun c => (slots.filter fun s => decide (par c s = c)).map fun s => (c, s)

theorem arr_perm : arrAll.Perm (devs.flatMap arrOf ++ arrNone) := by decide +kernel

theorem deal_recv :
    (bigSep Finset.univ fun c : Dev nD => sepL (fun s => (dutyTok ER (recvCell c s) 0 0 : sProp 𝕄)) slots)
      ⊢ bigSep Finset.univ fun c : Dev nD => sepL (fun x => if !decide (child c x.1 x.2 = c) then dutyTok ER (recvCell (child c x.1 x.2) x.1) 0 0 else iprop(emp)) pairs := by
  have h1 : (bigSep Finset.univ fun c : Dev nD => sepL (fun s => (dutyTok ER (recvCell c s) 0 0 : sProp 𝕄)) slots)
      = sepL (fun y : Dev nD × Fin 16 => (dutyTok ER (recvCell y.1 y.2) 0 0 : sProp 𝕄)) arrAll := by
    unfold arrAll
    rw [bigSep_dev, sepL_flatMap]
    exact sepL_congr fun c _ => by rw [sepL_map]
  have h2 : (bigSep Finset.univ fun c : Dev nD => sepL (fun x => if !decide (child c x.1 x.2 = c) then (dutyTok ER (recvCell (child c x.1 x.2) x.1) 0 0 : sProp 𝕄) else iprop(emp)) pairs)
      = sepL (fun y : Dev nD × Fin 16 => (dutyTok ER (recvCell y.1 y.2) 0 0 : sProp 𝕄)) (devs.flatMap arrOf) := by
    rw [bigSep_dev, sepL_flatMap]
    refine sepL_congr fun c _ => ?_
    unfold arrOf
    rw [sepL_map, sepL_filter]
  rw [h1, h2, sepL_perm _ arr_perm, sepL_append]
  iintro ⟨H, -⟩
  iexact H

theorem toks_deal : (bigSep Finset.univ fun c : Dev nD => toks (F := F) c) ⊢ bigSep Finset.univ fun c : Dev nD => payToks (F := F) c := by
  have h1 (c : Dev nD) : toks (F := F) c ⊢ iprop((bigSep Finset.univ fun d : Dev nD => dutyTok ER (barCell c) 0 d)
      ∗ sepL (fun s => dutyTok ER (recvCell c s) 0 0) slots ∗ sepL (fun x => dutyTok ER (sendCell c x.1 x.2) 0 0) pairs) := by
    unfold toks
    rw [bigSep_CI]
    have eS : sepL (fun x : Fin 16 × Fin 3 => bigSep Finset.univ fun d : Dev nD => (dutyTok ER (kcell (c, CI.send x.1 x.2)) 0 d : sProp 𝕄)) pairs
        ⊢ sepL (fun x => dutyTok ER (sendCell c x.1 x.2) 0 0) pairs :=
      sepL_mono fun x _ => bigSep_elim (Finset.mem_univ 0) (Φ := fun d : Dev nD => (dutyTok ER (kcell (c, CI.send x.1 x.2)) 0 d : sProp 𝕄))
    have eR : sepL (fun s : Fin 16 => bigSep Finset.univ fun d : Dev nD => (dutyTok ER (kcell (c, CI.recv s)) 0 d : sProp 𝕄)) slots
        ⊢ sepL (fun s => dutyTok ER (recvCell c s) 0 0) slots :=
      sepL_mono fun s _ => bigSep_elim (Finset.mem_univ 0) (Φ := fun d : Dev nD => (dutyTok ER (kcell (c, CI.recv s)) 0 d : sProp 𝕄))
    iintro ⟨HS, HR, HB⟩
    isplitl [HB]; · iexact HB
    isplitl [HR]
    · iapply eR $$ HR
    · iapply eS $$ HS
  have h2 (c : Dev nD) : iprop(sepL (fun d => dutyTok ER (barCell d) 0 c) (nbrs c)
      ∗ sepL (fun x => if !decide (child c x.1 x.2 = c) then dutyTok ER (recvCell (child c x.1 x.2) x.1) 0 0 else iprop(emp)) pairs
      ∗ sepL (fun x => dutyTok ER (sendCell c x.1 x.2) 0 0) pairs) ⊢ payToks (F := F) c := by
    unfold payToks
    have e : iprop(sepL (fun x => if !decide (child c x.1 x.2 = c) then (dutyTok ER (recvCell (child c x.1 x.2) x.1) 0 0 : sProp 𝕄) else iprop(emp)) pairs
        ∗ sepL (fun x => dutyTok ER (sendCell c x.1 x.2) 0 0) pairs)
        ⊢ sepL (fun x => if child c x.1 x.2 = c then iprop(emp)
        else iprop(dutyTok ER (sendCell c x.1 x.2) 0 0 ∗ dutyTok ER (recvCell (child c x.1 x.2) x.1) 0 0)) pairs := by
      rw [← sepL_sep]
      refine sepL_mono fun x _ => ?_
      by_cases h : child c x.1 x.2 = c
      · rw [if_pos h]
        iintro -
        iempintro
      · rw [if_neg h, if_pos (by rw [decide_eq_false h]; rfl)]
        iintro ⟨H1, H2⟩
        isplitl [H2] <;> iassumption
    iintro ⟨HB, HR, HS⟩
    isplitl [HB]; · iexact HB
    iapply e
    isplitl [HR] <;> iassumption
  have h3 : (bigSep Finset.univ fun c : Dev nD => iprop((bigSep Finset.univ fun d : Dev nD => dutyTok ER (barCell c) 0 d)
      ∗ sepL (fun s => dutyTok ER (recvCell c s) 0 0) slots ∗ sepL (fun x => dutyTok ER (sendCell c x.1 x.2) 0 0) pairs) : sProp 𝕄)
      ⊢ bigSep Finset.univ fun c : Dev nD => iprop(sepL (fun d => dutyTok ER (barCell d) 0 c) (nbrs c)
      ∗ sepL (fun x => if !decide (child c x.1 x.2 = c) then dutyTok ER (recvCell (child c x.1 x.2) x.1) 0 0 else iprop(emp)) pairs
      ∗ sepL (fun x => dutyTok ER (sendCell c x.1 x.2) 0 0) pairs) := by
    simp only [bigSep_sep']
    iintro ⟨HB, HR, HS⟩
    isplitl [HB]
    · iapply (deal_bar (F := F)) $$ HB
    isplitl [HR]
    · iapply (deal_recv (F := F)) $$ HR
    iexact HS
  exact (bigSep_mono fun c _ => h1 c).trans (h3.trans (bigSep_mono fun c _ => h2 c))

theorem core_alloc (c : Dev nD) :
    iprop(Pipeline.ownSems0 (Ix := Unit) (Name := ℕ) (U := UU) (Lvl := ℕ) (Val := Elt F) (τ := τ) osem c ∗ unscopedSems0 c ∗ G0 m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c) := by
  unfold G0
  iintro ⟨Hos, Hus, Hst, Hat, Htok⟩
  ihave Hv := (Entails.of_eq (sems_CI (F := F) c).symm) $$ [Hos Hus]
  · isplitl [Hos] <;> iassumption
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G1 m) := by
  rw [bigSep_sep', bigSep_sep', ← bigSep_univ_prod (fun x : Dev nD × CI => iprop(∃ κ : ℕ, cellInv ER (Rd m) κ (kcell x))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun x : Dev nD × CI => (reached ER (kcell x) 0 : sProp 𝕄))]
  iintro ⟨HI, ⟨Hat, #HR⟩, Htok⟩
  ihave HK := (BI.bigSep_exists_pi Finset.univ (fun (x : Dev nD × CI) (κ : ℕ) => (cellInv ER (Rd m) κ (kcell x) : sProp 𝕄))) $$ HI
  icases HK with ⟨%K, #HI⟩
  ihave Htk := (toks_deal (F := F)) $$ Htok
  iapply (with_persistent (R := recs0 m K) (Φ := fun c : Dev nD => iprop(posAll (F := F) c ∗ payToks c)) fun c _ => (by
    unfold G1
    iintro ⟨H, Hp, Ht⟩
    isplitl [H]
    · iexists K; iexact H
    isplitl [Hp] <;> iassumption))
  isplitr
  · unfold recs0
    iapply (Entails.of_eq (bigSep_sep' Finset.univ (fun x : Dev nD × CI => (cellInv ER (Rd m) (K x) (kcell x) : sProp 𝕄)) (fun x => reached ER (kcell x) 0)).symm)
    isplitr; · iexact HI
    iexact HR
  · iapply (Entails.of_eq (bigSep_sep' Finset.univ (posAll (F := F)) payToks).symm)
    isplitl [Hat]
    · unfold posAll; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G0 m c) : sProp 𝕄)
    ⊢ |={Set.univ}=> bigSep Finset.univ (G1 m) :=
  ((bigSep_mono fun c _ => core_alloc m c).trans (bigSep_fupd _ _)).trans (BI.fupd_mono (regroup m))

/-! ### The credit -/

/-- How often device `d` is to raise a cell. -/
def owedTimes (d : Fin 8) (g : Fin 8 × CI) : ℕ := (init d).countP fun t => decide (target d t = some g)

theorem debt_apply (c : Dev nD) (g : Dev nD × CI) (X : List Tok) :
    debt c X (kcell g) () = (X.countP fun t => decide (target c t = some g)) * amt g.2 := by
  induction X with
  | nil => rw [debt_nil, List.countP_nil, Nat.zero_mul]; rfl
  | cons t X ih =>
    rw [debt_cons, Pi.add_apply, Finsupp.add_apply, ih, List.countP_cons, Nat.add_mul, Nat.add_comm]
    congr 1
    rcases hx : target c t with _ | g'
    · have e : debtTok c t = 0 := by unfold debtTok; rw [hx]
      rw [e, if_neg (by simp), Nat.zero_mul]; rfl
    · have e : debtTok c t = tallyAt (kcell g') () (amt g'.2) := by unfold debtTok; rw [hx]
      rw [e, tallyAt_apply]
      by_cases h : g' = g
      · subst h
        rw [if_pos ⟨rfl, rfl⟩, if_pos (by simp), Nat.one_mul]
      · rw [if_neg fun hh => h (kcell_inj hh.1).symm, if_neg (by simpa using h), Nat.zero_mul]

theorem times_bar (c : Fin 8) : ∑ d : Fin 8, owedTimes d (c, CI.bar) = 3 := by revert c; decide +kernel
theorem times_recv (c : Fin 8) (s : Fin 16) : par c s ≠ c → ∑ d : Fin 8, owedTimes d (c, CI.recv s) = 1 := by revert c s; decide +kernel

/-- What the devices owe at launch. -/
def O₀ (c : Dev nD) : CellTallies nD τ sig Unit := debt c (init c)

theorem launch_cell (g : Dev nD × CI) (n : ℕ) (h : ∑ d : Fin 8, owedTimes d g = n) :
    tallyOn (kcell g) (launchCredit (Pipeline.owing O₀) 0 (kcell g)) = (tallyAt (kcell g) () (n * amt g.2) : CellTallies nD τ sig Unit) := by
  unfold tallyAt; refine congrArg _ (Finsupp.ext fun u => ?_); cases u
  rw [Pipeline.launchCredit_owing, Finsupp.single_eq_same, Finset.sum_congr rfl fun d _ => (show O₀ d (kcell g) () = _ from debt_apply d g (init d)), ← Finset.sum_mul, ← h]
  rfl

theorem creds_intro (c : Dev nD) : (Pipeline.launchCred O₀ c : sProp 𝕄) ⊢ credits c := by
  have h0 : (Pipeline.launchCred O₀ c : sProp 𝕄) ⊢ bigSep Finset.univ fun i : CI => cred (tallyOn (kcell (c, i)) (launchCredit (Pipeline.owing O₀) 0 (kcell (c, i)))) := by
    unfold Pipeline.launchCred
    refine (bigSep_subset (t := Finset.univ.map ⟨csem, csem_inj⟩) (Finset.subset_univ _)).trans ?_
    rw [bigSep_map]
    exact BI.Entails.refl _
  refine h0.trans ?_
  rw [bigSep_CI, launch_cell (c, CI.bar) 3 (times_bar c)]
  unfold credits
  have e : sepL (fun s => (cred (tallyOn (kcell (c, CI.recv s)) (launchCredit (Pipeline.owing O₀) 0 (kcell (c, CI.recv s)))) : sProp 𝕄)) slots
      ⊢ sepL (fun s => if par c s = c then iprop(emp) else cred (tallyAt (recvCell c s) () N)) slots := by
    refine sepL_mono fun s _ => ?_
    by_cases h : par c s = c
    · rw [if_pos h]
      iintro -
      iempintro
    · rw [if_neg h, launch_cell (c, CI.recv s) 1 (times_recv c s h), Nat.one_mul]
      exact .rfl
  iintro ⟨-, HR, HB⟩
  isplitl [HB]; · iexact HB
  iapply e $$ HR

/-! ### The side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G1 m c)
      ⊢ |={Set.univ}=> iprop(start m c ∗ emp) := by
  unfold G1 start recs
  iintro ⟨-, Hlev, Hcr, -, ⟨⟨%K, HK⟩, Hp, Ht⟩⟩
  ihave Hc := (creds_intro (F := F) c) $$ Hcr
  imodintro
  isplitl
  · isplitl [HK Hlev]
    · iexists K
      isplitl [HK]
      · unfold recs0; iexact HK
      iexact Hlev
    isplitl [Hp]; · iexact Hp
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq]
  unfold Φ₁
  rw [sems_CI]
  iintro ⟨⟨Ho, Hu⟩, Hr⟩
  isplitl [Hu]; · iexact Hu
  isplitl [Ho] <;> iassumption

theorem stage_not_cell (w : Fin 5) (s : Fin (cfg0.win w).nbuf) (i : CI) : csem i ≠ .dma ((cfg0.win w).sem s) := by
  revert w s i; decide +kernel

theorem waits (c : Dev nD) : (levAts L lv : sProp 𝕄) ⊢ Pipeline.cellsWaits cfgs (dats m) () 0 c :=
  Pipeline.cellsWaits_intro cfgs (dats m) () 0 c fun w s t => by
    have hq : dec (.dma ((cfg0.win w).sem s)) = none := by
      unfold dec
      exact dif_neg fun ⟨i, hi⟩ => stage_not_cell w s i hi
    rcases t with ⟨_ | n, ht⟩
    · exact mayWait_stage c _ hq (init c)
    · exact mayWait_stage c _ hq []

/-! ### The run -/

/-- The memory and the counters a run starts from. -/
def s₀ : MemSt nD τ sig (Elt F) := ⟨m, fun _ => 0, ρ⟩

/-- A window's array on device `c` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with the counters at zero every weakly fair execution of the eight devices terminates, with the
    arrays at the computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G0 m) (G' := G1 m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.Frames.lean ====
module

public import proofs.«01_k».proof.Proof.Launch
public import proofs.«01_k».proof.Proof.Gen.Kernel
public import proofs.«01_k».proof.Defs

@[expose] public section

noncomputable section

/-! # The runs of the printed programs -/

namespace Cert.KProof

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- An operand's array holds after the run what it held before. -/
theorem finalA_0 (c : Dev nD) : finalA m c (0 : Fin 5) = m ((c.tc : Thread nD τ).loc main_arg0) := (dats m 0 c).arrAt_in (0 : Fin 5) rfl _
theorem finalA_1 (c : Dev nD) : finalA m c (1 : Fin 5) = m ((c.tc : Thread nD τ).loc main_arg1) := (dats m 0 c).arrAt_in (1 : Fin 5) rfl _
theorem finalA_2 (c : Dev nD) : finalA m c (2 : Fin 5) = m ((c.tc : Thread nD τ).loc main_arg2) := (dats m 0 c).arrAt_in (2 : Fin 5) rfl _
theorem finalA_3 (c : Dev nD) : finalA m c (3 : Fin 5) = m ((c.tc : Thread nD τ).loc main_arg3) := (dats m 0 c).arrAt_in (3 : Fin 5) rfl _

/-- The program runs, its arguments end unchanged, every counter ends at zero; and the result's array ends at the
    computed contents. -/
theorem run_frame : θ_run defs (onTc (τ := τ) (main (F := F))) ⟨m, fun _ => 0, ρ⟩ (fun r =>
    ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
    ∧ ∀ c : Dev nD, r.2.mem ((c.tc : Thread nD τ).loc main_v1) = finalA m c (4 : Fin 5)) :=
  (θ_run defs _ _).mono (fun r hr =>
    ⟨⟨fun c => ⟨(hr.1 c (0 : Fin 5)).trans (finalA_0 m c), (hr.1 c (1 : Fin 5)).trans (finalA_1 m c),
      (hr.1 c (2 : Fin 5)).trans (finalA_2 m c), (hr.1 c (3 : Fin 5)).trans (finalA_3 m c)⟩, hr.2⟩,
      fun c => hr.1 c (4 : Fin 5)⟩) (run_main m ρ)

set_option maxRecDepth 65536 in
/-- The idealization is the program itself. -/
theorem defs_eq : Cert.Kernel.defs (F := F) = Cert.KernelIdeal.defs (F := F) := by sl_kernel_rfl
theorem main_eq : Cert.Kernel.main (F := F) = Cert.KernelIdeal.main (F := F) := by sl_kernel_rfl

theorem frame_KernelIdeal : Cert.quiescent_KernelIdeal (hKernelIdeal := Cert.KernelIdeal.Gen.facts) := fun m g _ =>
  (θ_run defs _ _).mono (fun r hr => hr.1) (run_frame (F := Ideal) m g)

theorem frame_Kernel : Cert.quiescent_Kernel (hKernel := Cert.Kernel.Gen.facts) := fun m g _ => by
  have h := (θ_run defs _ _).mono (fun r hr => hr.1) (run_frame (F := Bits) m g)
  rw [← defs_eq, ← main_eq] at h
  exact h

end Cert.KProof

end
-- ==== Proof.Algebra.lean ====
module

public import proofs.«01_k».proof.Proof.Frames
public import proofs.«01_k».proof.Proof.Gen.ReferenceIdeal.Value
public import Idealize.ShloMosaic.Lib.MatmulPlain
public import Idealize.ShloMosaic.Lib.VecWindow
public import Idealize.ShloMosaic.Lib.Pipeline.ValueKit.Geometry
public import Idealize.ShloMosaic.Lib.Pipeline.ValueKit.Tiles

@[expose] public section

noncomputable section

/-! # The result is the reference's -/

namespace Cert.KProof

open Idealize.ShloMosaic Idealize.ShloMosaic.TcCoe Idealize.ShloMosaic.ValueIdx
open Idealize.SL.Sem

/-! ## One entry of a scaled product -/

/-- An entry of the result from its sum of products: scaled, and no less than zero. -/
def entry (s x : Ideal .f32) : Ideal .f32 :=
  FloatOps.maximumf (FloatOps.mulf (constant (F := Ideal) ⟨0, ![]⟩ .f32 0x00000000#32 (fun a => a.elim0) + x) s) (Scalar.ofBits .f32 0x00000000#32)

/-- The sum of products of a row and a column. -/
def sumP {M K N : ℕ} (lhs : FVec Ideal ⟨2, ![M, K]⟩ .fp8e5m2) (rhs : FVec Ideal ⟨2, ![K, N]⟩ .fp8e5m2) (r : Fin M) (j : Fin N) : Ideal .f32 :=
  ∑ k : Fin K, lhs (ix2 r k) * rhs (ix2 k j)

/-- It depends on the row and the column only. -/
theorem sumP_congr {M M' K N N' : ℕ} {lhs : FVec Ideal ⟨2, ![M, K]⟩ .fp8e5m2} {rhs : FVec Ideal ⟨2, ![K, N]⟩ .fp8e5m2}
    {lhs' : FVec Ideal ⟨2, ![M', K]⟩ .fp8e5m2} {rhs' : FVec Ideal ⟨2, ![K, N']⟩ .fp8e5m2} {r : Fin M} {j : Fin N} {r' : Fin M'} {j' : Fin N'}
    (hl : ∀ k, lhs (ix2 r k) = lhs' (ix2 r' k)) (hr : ∀ k, rhs (ix2 k j) = rhs' (ix2 k j')) : sumP lhs rhs r j = sumP lhs' rhs' r' j' :=
  Finset.sum_congr rfl fun k _ => congrArg₂ (· * ·) (hl k) (hr k)

/-- A scaled product at a row and a column. -/
theorem prod_apply {M K N : ℕ} (s : Ideal .f32) (lhs : FVec Ideal ⟨2, ![M, K]⟩ .fp8e5m2) (rhs : FVec Ideal ⟨2, ![K, N]⟩ .fp8e5m2)
    (r : Fin M) (j : Fin N) :
    maximumf (mulf (matmul (DotDims.plain M K N) none lhs rhs (constant ⟨2, ![M, N]⟩ .f32 0x00000000#32)) (broadcast ⟨2, ![M, N]⟩ s))
      (broadcast ⟨2, ![M, N]⟩ (Scalar.ofBits .f32 0x00000000#32)) (ix2 r j)
      = entry s (sumP lhs rhs r j) :=
  congrArg (fun x => FloatOps.maximumf (FloatOps.mulf x s) (Scalar.ofBits .f32 0x00000000#32))
    (Ideal.matmul_plain_apply none lhs rhs (constant ⟨2, ![M, N]⟩ .f32 0x00000000#32) r j)

/-! ## The program's result -/

section Kernel

open Cert.KernelIdeal Cert.KernelIdeal.Gen

variable {F : FTy → Type} [FloatOps F]
variable (m : (ℓ : Loc nD τ sig) → Buf (Elt F) ℓ)

/-- The staged operands are the arguments. -/
theorem xstg_eq (c : Dev nD) (i : S512x4096.Idx) : xstg m c i = m ((c : Thread nD τ).loc main_arg0) i :=
  congrArg (m ((c : Thread nD τ).loc main_arg0)) (funext fun a => Fin.ext (by
    show 0 * _ + 1 * (i a).val = (i a).val
    omega))
theorem wstg_eq (c : Dev nD) (i : S4096x256.Idx) : wstg m c i = m ((c : Thread nD τ).loc main_arg1) i :=
  congrArg (m ((c : Thread nD τ).loc main_arg1)) (funext fun a => Fin.ext (by
    show 0 * _ + 1 * (i a).val = (i a).val
    omega))
theorem astg_eq (c : Dev nD) (i : S1.Idx) : astg m c i = m ((c : Thread nD τ).loc main_arg2) i :=
  congrArg (m ((c : Thread nD τ).loc main_arg2)) (funext fun a => Fin.ext (by
    show 0 * _ + 1 * (i a).val = (i a).val
    omega))
theorem bstg_eq (c : Dev nD) (i : S1.Idx) : bstg m c i = m ((c : Thread nD τ).loc main_arg3) i :=
  congrArg (m ((c : Thread nD τ).loc main_arg3)) (funext fun a => Fin.ext (by
    show 0 * _ + 1 * (i a).val = (i a).val
    omega))

/-- Where a row of a device's own rows lies, and where a row of a slot lies. -/
theorem embG_own (c : Dev nD) (r : Fin 512) (k : Fin 4096) :
    (mG.access (rOwnG c) : View sig .tc _ _ _).emb (ix2 r k) = ix2 (⟨512 * c.val + r.val, by have : c.val < 8 := c.isLt; omega⟩ : Fin 4096) k := by
  funext a
  refine Fin.ext ((ValueKit.view_emb_slice_whole_unit_val cc0_scratch0 _ _ _ _ a).trans ?_)
  refine (congrArg (· + _) (congrFun (off1 c) a)).trans ?_
  match a with
  | ⟨0, _⟩ => rfl
  | ⟨1, _⟩ => exact Nat.zero_add _
theorem embG_slot (s : Fin 16) (r : Fin 256) (k : Fin 4096) (h : row s + r.val < 4096) :
    (mG.access (rSlot s) : View sig .tc _ _ _).emb (ix2 r k) = ix2 (⟨row s + r.val, h⟩ : Fin 4096) k := by
  funext a
  refine Fin.ext ((ValueKit.view_emb_slice_whole_unit_val cc0_scratch0 _ _ _ _ a).trans ?_)
  match a with
  | ⟨0, _⟩ => rfl
  | ⟨1, _⟩ => exact Nat.zero_add _
theorem embO_own (c : Dev nD) (r : Fin 512) (j : Fin 256) :
    (mO.access (rOwnO c) : View sig .tc _ _ _).emb (ix2 r j) = ix2 (⟨512 * c.val + r.val, by have : c.val < 8 := c.isLt; omega⟩ : Fin 4096) j := by
  funext a
  refine Fin.ext ((ValueKit.view_emb_slice_whole_unit_val cc0_stg4_0 _ _ _ _ a).trans ?_)
  refine (congrArg (· + _) (congrFun (off2 c) a)).trans ?_
  match a with
  | ⟨0, _⟩ => rfl
  | ⟨1, _⟩ => exact Nat.zero_add _
theorem embO_slot (s : Fin 16) (r : Fin 256) (j : Fin 256) (h : row s + r.val < 4096) :
    (mO.access (rOut s) : View sig .tc _ _ _).emb (ix2 r j) = ix2 (⟨row s + r.val, h⟩ : Fin 4096) j := by
  funext a
  refine Fin.ext ((ValueKit.view_emb_slice_whole_unit_val cc0_stg4_0 _ _ _ _ a).trans ?_)
  match a with
  | ⟨0, _⟩ => rfl
  | ⟨1, _⟩ => exact Nat.zero_add _

/-- A row of the gathered operand is the row of the operand of the device that owns it. -/
theorem G_apply (d : Dev nD) (r : Fin 512) (k : Fin 4096) (h : 512 * d.val + r.val < 4096) :
    G m (ix2 (⟨512 * d.val + r.val, h⟩ : Fin 4096) k) = m ((d : Thread nD τ).loc main_arg0) (ix2 r k) := by
  have e := embG_own d r k
  have hm : (ix2 (⟨512 * d.val + r.val, h⟩ : Fin 4096) k : S4096x4096.Idx) ∈ gOwn d :=
    (mem_gOwn d _).mpr ⟨Nat.le_add_right _ _, Nat.add_lt_add_left r.isLt _⟩
  rw [← G_own m d (m ((d : Thread nD τ).loc cc0_scratch0)) _ hm, ← e]
  refine (View.write_emb_of_mem (v := _) _ _ (Finset.mem_univ (ix2 r k))).trans ?_
  show k0_pay1 (xstg m d) (ix2 r k) = _
  unfold k0_pay1
  rw [shapeCast_self, shapeCast_self]
  exact xstg_eq m d _

/-- The copied second operand is the argument. -/
theorem V_apply (c : Dev nD) (i : S4096x256.Idx) : V m c i = m ((c : Thread nD τ).loc main_arg1) i := by
  unfold V k0_pay3
  rw [shapeCast_self, shapeCast_self]
  exact wstg_eq m c _

/-- The result's array ends at what the program computes in its staging buffer. -/
theorem final_eq (c : Dev nD) (i : S4096x256.Idx) : finalA m c (4 : Fin 5) i = Y m c i := by
  refine ((dats m 0 c).arrAt_emb_eq_after_last (4 : Fin 5) (0 : Fin 1) ⟨flush0_4 (0 : Fin 1), fun t _ => Subsingleton.elim (α := Fin 1) t 0, fun a => ⟨rfl, rfl⟩⟩ i).trans ?_
  rfl

/-- A load of own rows, or of a slot's, reads the buffer's row there. -/
theorem readG_own (g : (cc0_scratch0 : Ref sig .tc).ty.Contents (Elt F)) (c : Dev nD) (r : Fin 512) (k : Fin 4096)
    (h : 512 * c.val + r.val < 4096) :
    (mG.access (rOwnG c) : View sig .tc _ _ _).read (Elt F) g (ix2 r k) = g (ix2 (⟨512 * c.val + r.val, h⟩ : Fin 4096) k) :=
  congrArg g (embG_own c r k)
theorem readG_slot (g : (cc0_scratch0 : Ref sig .tc).ty.Contents (Elt F)) (s : Fin 16) (r : Fin 256) (k : Fin 4096)
    (h : row s + r.val < 4096) :
    (mG.access (rSlot s) : View sig .tc _ _ _).read (Elt F) g (ix2 r k) = g (ix2 (⟨row s + r.val, h⟩ : Fin 4096) k) :=
  congrArg g (embG_slot s r k h)

/-- An entry of either product of the program. -/
theorem pay4_apply (s : Ideal .f32) (g : Vec Ideal S512x4096 .fp8e5m2) (v : Vec Ideal S4096x256 .fp8e5m2) (r : Fin 512) (j : Fin 256) :
    k0_pay4 s g v (ix2 r j) = entry s (sumP (M := 512) (K := 4096) (N := 256) g v r j) := by
  unfold k0_pay4
  exact prod_apply (M := 512) (K := 4096) (N := 256) s g v r j
theorem pay5_apply (s : Ideal .f32) (g : Vec Ideal S256x4096 .fp8e5m2) (v : Vec Ideal S4096x256 .fp8e5m2) (r : Fin 256) (j : Fin 256) :
    k0_pay5 s g v (ix2 r j) = entry s (sumP (M := 256) (K := 4096) (N := 256) g v r j) := by
  unfold k0_pay5
  exact prod_apply (M := 256) (K := 4096) (N := 256) s g v r j

/-- The contents of the result at a row and a column. -/
theorem Y_apply (m : (ℓ : Loc nD τ sig) → Buf (Elt Ideal) ℓ) (c : Dev nD) (R : Fin 4096) (j : Fin 256) :
    Y m c (ix2 R j) = entry (scale m c) (sumP (M := 4096) (K := 4096) (N := 256) (G m) (V m c) R j) := by
  by_cases e : par c (slotOf R.val R.isLt) = c
  · have h : 512 * c.val ≤ R.val ∧ R.val < 512 * c.val + 512 := by
      have := slotOf_lo R.val R.isLt
      have := slotOf_hi R.val R.isLt
      rcases (par_own c _).mp e with h | h
      · have := row_own0 c
        rw [← h] at this; omega
      · have := row_own1 c
        rw [← h] at this; omega
    obtain ⟨r, hr, rfl⟩ : ∃ (r : Fin 512) (hr : 512 * c.val + r.val < 4096), R = ⟨512 * c.val + r.val, hr⟩ :=
      ⟨⟨R.val - 512 * c.val, by omega⟩, by show 512 * c.val + (R.val - 512 * c.val) < 4096; omega,
        Fin.ext (by show R.val = 512 * c.val + (R.val - 512 * c.val); omega)⟩
    have hm : (ix2 (⟨512 * c.val + r.val, hr⟩ : Fin 4096) j : S4096x256.Idx) ∈ oOwn c := (mem_oOwn c _).mpr h
    rw [← Y_own m c (m ((c : Thread nD τ).loc cc0_stg4_0)) _ hm, ← embO_own c r j]
    refine (View.write_emb_of_mem (v := _) _ _ (Finset.mem_univ (ix2 r j))).trans ?_
    refine (pay4_apply (scale m c) _ (V m c) r j).trans ?_
    exact congrArg (entry (scale m c)) (sumP_congr (fun k => readG_own (G m) c r k hr) (fun _ => rfl))
  · have h₁ := slotOf_lo R.val R.isLt
    have h₂ := slotOf_hi R.val R.isLt
    generalize slotOf R.val R.isLt = s at e h₁ h₂
    obtain ⟨r, hr, rfl⟩ : ∃ (r : Fin 256) (hr : row s + r.val < 4096), R = ⟨row s + r.val, hr⟩ :=
      ⟨⟨R.val - row s, by omega⟩, by show row s + (R.val - row s) < 4096; omega,
        Fin.ext (by show R.val = row s + (R.val - row s); omega)⟩
    have hm : (ix2 (⟨row s + r.val, hr⟩ : Fin 4096) j : S4096x256.Idx) ∈ oSet s := (mem_oSet s _).mpr ⟨h₁, h₂⟩
    rw [← Y_slot m c s e (m ((c : Thread nD τ).loc cc0_stg4_0)) _ hm, ← embO_slot s r j hr]
    refine (View.write_emb_of_mem (v := _) _ _ (Finset.mem_univ (ix2 r j))).trans ?_
    refine (pay5_apply (scale m c) _ (V m c) r j).trans ?_
    exact congrArg (entry (scale m c)) (sumP_congr (fun k => readG_slot (G m) s r k hr) (fun _ => rfl))

end Kernel

/-! ## The reference's result -/

section Reference

open Cert.ReferenceIdeal Cert.ReferenceIdeal.Gen

variable (m : (ℓ : Loc nD τ sig) → Buf (Elt Ideal) ℓ)

/-- The reference's operand blocks are its arguments. -/
theorem refBlk0 (c : Dev nD) (i : S4096x4096.Idx) : iblk m c 0 (0 : Fin 1) i = m ((c : Thread nD τ).loc main_arg0) i :=
  congrArg (m ((c : Thread nD τ).loc main_arg0)) (funext fun a => Fin.ext (by
    show 0 * _ + 1 * (i a).val = (i a).val
    omega))
theorem refBlk1 (c : Dev nD) (i : S4096x2048.Idx) : iblk m c 1 (0 : Fin 1) i = m ((c : Thread nD τ).loc main_arg1) i :=
  congrArg (m ((c : Thread nD τ).loc main_arg1)) (funext fun a => Fin.ext (by
    show 0 * _ + 1 * (i a).val = (i a).val
    omega))
theorem refBlk2 (c : Dev nD) (i : S1.Idx) : iblk m c 2 (0 : Fin 1) i = m ((c : Thread nD τ).loc main_arg2) i :=
  congrArg (m ((c : Thread nD τ).loc main_arg2)) (funext fun a => Fin.ext (by
    show 0 * _ + 1 * (i a).val = (i a).val
    omega))
theorem refBlk3 (c : Dev nD) (i : S1.Idx) : iblk m c 3 (0 : Fin 1) i = m ((c : Thread nD τ).loc main_arg3) i :=
  congrArg (m ((c : Thread nD τ).loc main_arg3)) (funext fun a => Fin.ext (by
    show 0 * _ + 1 * (i a).val = (i a).val
    omega))

/-- The product depends on what is loaded only. -/
theorem refPay_congr {x0 x0' : Vec Ideal S4096x4096 .fp8e5m2} {x1 x1' : Vec Ideal S4096x2048 .fp8e5m2} {a a' b b' : Ideal .f32}
    (h0 : x0 = x0') (h1 : x1 = x1') (h2 : a = a') (h3 : b = b') : k0_pay1 x0 x1 a b = k0_pay1 x0' x1' a' b' := by
  subst h0 h1 h2 h3; rfl

/-- The one word of a scale operand. -/
abbrev word (x : Vec Ideal S1 .f32) : Ideal .f32 := x (Shape.Idx.first (numel1_S1.symm ▸ Nat.one_pos))

/-- What the reference's one store leaves: the scaled product of what is loaded. -/
theorem refOut (c : Dev nD) (arg0 : Memref sig .tc .vmem S4096x4096 .fp8e5m2) (harg0 : arg0.IsWhole)
    (arg1 : Memref sig .tc .vmem S4096x2048 .fp8e5m2) (harg1 : arg1.IsWhole) (arg2 : Memref sig .tc .smem S1 .f32) (harg2 : arg2.IsWhole)
    (arg3 : Memref sig .tc .smem S1 .f32) (harg3 : arg3.IsWhole) (arg4 : Memref sig .tc .vmem S4096x2048 .f32) (harg4 : arg4.IsWhole)
    (x0 : Vec Ideal S4096x4096 .fp8e5m2) (x1 : Vec Ideal S4096x2048 .fp8e5m2) (x2 : Vec Ideal S1 .f32) (x3 : Vec Ideal S1 .f32)
    (y : S4096x2048.Idx) :
    out0_A_4 c arg0 harg0 arg1 harg1 arg2 harg2 arg3 harg3 arg4 harg4 x0 x1 x2 x3 y
      = k0_pay1 x0 x1 (word x2) (word x3) y := by
  unfold out0_A_4 kernelRun0_A
  dsimp only
  unfold kernelRun0_A.sl.r kernelRun0_A.sl.r_1
  refine (congrFun (View.read_writes_full VO0_4 VO0_4.junk inb_S4096x2048_S4096x2048_0_0 _ []) y).trans ?_
  exact congrFun (refPay_congr ((View.readAt_full _ _ _).trans (harg0.read_unread x0)) ((View.readAt_full _ _ _).trans (harg1.read_unread x1))
    (congrFun ((View.readAt_full _ _ _).trans (harg2.read_unread x2)) _) (congrFun ((View.readAt_full _ _ _).trans (harg3.read_unread x3)) _)) y

/-- An entry of the reference's product. -/
theorem refPay_apply (x0 : Vec Ideal S4096x4096 .fp8e5m2) (x1 : Vec Ideal S4096x2048 .fp8e5m2) (a b : Ideal .f32) (R : Fin 4096) (J : Fin 2048) :
    k0_pay1 x0 x1 a b (ix2 R J) = entry (Scalar.mulf a b) (sumP (M := 4096) (K := 4096) (N := 2048) x0 x1 R J) := by
  unfold k0_pay1
  exact prod_apply (M := 4096) (K := 4096) (N := 2048) _ x0 x1 R J

/-- The reference's result at a row and a column. -/
theorem refFinal (c : Dev nD) (R : Fin 4096) (J : Fin 2048) :
    (Cert.ReferenceIdeal.Gen.dats m 0 c).arrAt (4 : Fin 5) cfg0.N (ix2 R J) =
      entry (Scalar.mulf (word (m ((c : Thread nD τ).loc main_arg2))) (word (m ((c : Thread nD τ).loc main_arg3))))
        (sumP (M := 4096) (K := 4096) (N := 2048) (m ((c : Thread nD τ).loc main_arg0)) (m ((c : Thread nD τ).loc main_arg1)) R J) := by
  refine ((Cert.ReferenceIdeal.Gen.dats m 0 c).arrAt_emb_eq_after_last (4 : Fin 5) (0 : Fin 1)
    ⟨flush0_4 (0 : Fin 1), fun t _ => Subsingleton.elim (α := Fin 1) t 0, fun a => ⟨rfl, rfl⟩⟩ (ix2 R J)).trans ?_
  refine (congrFun (after0_4 m c (0 : Fin 1)) (ix2 R J)).trans ?_
  unfold outsAt0
  refine (refOut c _ _ _ _ _ _ _ _ _ _ _ _ _ _ (ix2 R J)).trans ?_
  refine (refPay_apply _ _ _ _ R J).trans ?_
  exact congrArg₂ entry (congrArg₂ Scalar.mulf (refBlk2 m c _) (refBlk3 m c _))
    (sumP_congr (fun k => refBlk0 m c _) (fun k => refBlk1 m c _))

end Reference

/-! ## The claim -/

/-- Every device's result is its block of columns of the reference's result, and every argument is kept. -/
theorem agree : Cert.algebraic_KernelIdeal_ReferenceIdeal (hKernelIdeal := Cert.KernelIdeal.Gen.facts)
    (hReferenceIdeal := Cert.ReferenceIdeal.Gen.facts) := by
  intro m g m' g' _ hb
  refine ⟨(Cert.ReferenceIdeal.Gen.dats m' 0 0).arrAt (4 : Fin 5) Cert.ReferenceIdeal.cfg0.N,
    (θ_run _ _ _).mono (fun r hr c => ⟨(hr.2 c).trans ?_, hr.1.1 c⟩) (run_frame m g),
    (θ_run _ _ _).mono (fun r hr => hr 0) (Cert.ReferenceIdeal.Value.run_blocks m' g')⟩
  funext i
  obtain ⟨R, j, rfl⟩ : ∃ (R : Fin 4096) (j : Fin 256), i = ix2 R j := ⟨i 0, i 1, eq_ix2 i⟩
  have hc : c.val < 8 := c.isLt
  refine (final_eq m c _).trans ((Y_apply m c R j).trans ?_)
  have hJ : c.val * 256 + j.val < 2048 := by omega
  refine Eq.trans ?_ ((refFinal m' 0 R ⟨c.val * 256 + j.val, hJ⟩).symm.trans
    (congrArg ((Cert.ReferenceIdeal.Gen.dats m' 0 0).arrAt (4 : Fin 5) Cert.ReferenceIdeal.cfg0.N) (funext fun a => Fin.ext (match a with
      | ⟨0, _⟩ => rfl
      | ⟨1, _⟩ => rfl))))
  refine congrArg₂ entry ?_ (sumP_congr (fun k => ?_) (fun k => ?_))
  · exact congrArg₂ Scalar.mulf ((astg_eq m c _).trans (congrFun (hb c).2.2.1 _)) ((bstg_eq m c _).trans (congrFun (hb c).2.2.2 _))
  · obtain ⟨d, r, h, rfl⟩ : ∃ (d : Fin 8) (r : Fin 512) (h : 512 * d.val + r.val < 4096), R = ⟨512 * d.val + r.val, h⟩ :=
      ⟨⟨R.val / 512, by omega⟩, ⟨R.val % 512, by omega⟩, by show 512 * (R.val / 512) + R.val % 512 < 4096; omega,
        Fin.ext (by show R.val = 512 * (R.val / 512) + R.val % 512; omega)⟩
    refine (G_apply m d r k h).trans ((congrFun (hb d).1 (ix2 r k)).trans ?_)
    exact congrArg (m' _) (funext fun a => Fin.ext (match a with
      | ⟨0, _⟩ => congrArg (· + r.val) (Nat.mul_comm d.val 512)
      | ⟨1, _⟩ => rfl))
  · refine (V_apply m c _).trans ((congrFun (hb c).2.1 (ix2 k j)).trans ?_)
    exact congrArg (m' _) (funext fun a => Fin.ext (match a with
      | ⟨0, _⟩ => rfl
      | ⟨1, _⟩ => rfl))

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.frame_Kernel, Cert.KProof.frame_KernelIdeal, fun m ρ _ => Cert.ReferenceIdeal.Gen.frame m ρ, trivial, Cert.KProof.agree⟩

end Cert.Proof

end
